-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4294967 : Shape := ⟨2, ![2, 4294967]⟩
abbrev S4294967 : Shape := ⟨1, ![4294967]⟩
abbrev S2x16384 : Shape := ⟨2, ![2, 16384]⟩
abbrev S_ : Shape := ⟨0, ![]⟩
abbrev S2x10496 : Shape := ⟨2, ![2, 10496]⟩
abbrev S2x73728 : Shape := ⟨2, ![2, 73728]⟩
abbrev S131072 : Shape := ⟨1, ![131072]⟩
abbrev S1024x128 : Shape := ⟨2, ![1024, 128]⟩
abbrev S2x55 : Shape := ⟨2, ![2, 55]⟩

abbrev nBuf : Table → Nat
  | .hbm => 9
  | .local .tc .vmem => 8
  | .local .scVector .vmem => 1
  | _ => 0

abbrev bufTy : (tb : Table) → Fin (nBuf tb) → BufTy
  | .hbm, ⟨0, _⟩ => ⟨S2x4294967, .i32⟩
  | .hbm, ⟨1, _⟩ => ⟨S4294967, .f32⟩
  | .hbm, ⟨2, _⟩ => ⟨S2x4294967, .i32⟩
  | .hbm, ⟨3, _⟩ => ⟨S2x4294967, .i32⟩
  | .hbm, ⟨4, _⟩ => ⟨S4294967, .f32⟩
  | .hbm, ⟨5, _⟩ => ⟨S2x55, .i32⟩
  | .hbm, ⟨6, _⟩ => ⟨S_, .i32⟩
  | .hbm, ⟨7, _⟩ => ⟨S_, .i32⟩
  | .hbm, ⟨8, _⟩ => ⟨S2x4294967, .i32⟩
  | .local .tc .vmem, ⟨0, _⟩ => ⟨S2x73728, .i32⟩
  | .local .tc .vmem, ⟨1, _⟩ => ⟨S2x73728, .i32⟩
  | .local .tc .vmem, ⟨2, _⟩ => ⟨S131072, .f32⟩
  | .local .tc .vmem, ⟨3, _⟩ => ⟨S131072, .f32⟩
  | .local .tc .vmem, ⟨4, _⟩ => ⟨S2x73728, .i32⟩
  | .local .tc .vmem, ⟨5, _⟩ => ⟨S2x73728, .i32⟩
  | .local .tc .vmem, ⟨6, _⟩ => ⟨S131072, .f32⟩
  | .local .tc .vmem, ⟨7, _⟩ => ⟨S131072, .f32⟩
  | .local .scVector .vmem, ⟨0, _⟩ => ⟨S2x16384, .i32⟩
  | _, _ => ⟨S2x4294967, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_v3 : Ref sig .tc := ⟨.hbm, 8, rfl⟩
abbrev main_arg0_scv : Ref sig .scVector := ⟨.hbm, 0, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c113_i32 : BitVec 32 := 113#32
  let v3 : BitVec 1 := Scalar.cmpi .slt v2 c113_i32
  let v4 : BitVec 32 := Scalar.extui v3
  let c0_i32_0 : BitVec 32 := 0#32
  let v5 : BitVec 1 := Scalar.cmpi .ne v4 c0_i32_0
  v5

def k0_mult1 (i : grid0.Coords) : BitVec 32 :=
  let c2433024_i32 : BitVec 32 := 2433024#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c16384_i32 : BitVec 32 := 16384#32
  let v21 : BitVec 32 := Scalar.muli v2 c16384_i32
  let v22 : BitVec 32 := Scalar.addi c2433024_i32 v21
  v22
def k0_off1 (i : grid0.Coords) : Fin 2 → Nat :=
  let c0_i32_8_r0 : BitVec 32 := 0#32
  let c2433024_i32 : BitVec 32 := 2433024#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c16384_i32 : BitVec 32 := 16384#32
  let v21 : BitVec 32 := Scalar.muli v2 c16384_i32
  let v22 : BitVec 32 := Scalar.addi c2433024_i32 v21
  let v23 : BitVec 32 := v22
  ![0, v23.toNat]
def k0_cond2 (i : grid0.Coords) : BitVec 1 :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi c32_i32 v1
  let c113_i32_1 : BitVec 32 := 113#32
  let v7 : BitVec 1 := Scalar.cmpi .slt v6 c113_i32_1
  let v8 : BitVec 32 := Scalar.extui v7
  let c0_i32_2 : BitVec 32 := 0#32
  let v9 : BitVec 1 := Scalar.cmpi .ne v8 c0_i32_2
  v9

def k0_mult2 (i : grid0.Coords) : BitVec 32 :=
  let c2433024_i32 : BitVec 32 := 2433024#32
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi c32_i32 v1
  let c16384_i32 : BitVec 32 := 16384#32
  let v21 : BitVec 32 := Scalar.muli v6 c16384_i32
  let v22 : BitVec 32 := Scalar.addi c2433024_i32 v21
  v22
def k0_off2 (i : grid0.Coords) : Fin 2 → Nat :=
  let c0_i32_8_r2 : BitVec 32 := 0#32
  let c2433024_i32 : BitVec 32 := 2433024#32
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi c32_i32 v1
  let c16384_i32 : BitVec 32 := 16384#32
  let v21 : BitVec 32 := Scalar.muli v6 c16384_i32
  let v22 : BitVec 32 := Scalar.addi c2433024_i32 v21
  let v23 : BitVec 32 := v22
  ![0, v23.toNat]
def k0_cond3 (i : grid0.Coords) : BitVec 1 :=
  let c64_i32 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v10 : BitVec 32 := Scalar.addi c64_i32 v1
  let c113_i32_3 : BitVec 32 := 113#32
  let v11 : BitVec 1 := Scalar.cmpi .slt v10 c113_i32_3
  let v12 : BitVec 32 := Scalar.extui v11
  let c0_i32_4 : BitVec 32 := 0#32
  let v13 : BitVec 1 := Scalar.cmpi .ne v12 c0_i32_4
  v13

def k0_mult3 (i : grid0.Coords) : BitVec 32 :=
  let c2433024_i32 : BitVec 32 := 2433024#32
  let c64_i32 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v10 : BitVec 32 := Scalar.addi c64_i32 v1
  let c16384_i32 : BitVec 32 := 16384#32
  let v21 : BitVec 32 := Scalar.muli v10 c16384_i32
  let v22 : BitVec 32 := Scalar.addi c2433024_i32 v21
  v22
def k0_off3 (i : grid0.Coords) : Fin 2 → Nat :=
  let c0_i32_8_r4 : BitVec 32 := 0#32
  let c2433024_i32 : BitVec 32 := 2433024#32
  let c64_i32 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v10 : BitVec 32 := Scalar.addi c64_i32 v1
  let c16384_i32 : BitVec 32 := 16384#32
  let v21 : BitVec 32 := Scalar.muli v10 c16384_i32
  let v22 : BitVec 32 := Scalar.addi c2433024_i32 v21
  let v23 : BitVec 32 := v22
  ![0, v23.toNat]
def k0_cond4 (i : grid0.Coords) : BitVec 1 :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v14 : BitVec 32 := Scalar.addi c96_i32 v1
  let c113_i32_5 : BitVec 32 := 113#32
  let v15 : BitVec 1 := Scalar.cmpi .slt v14 c113_i32_5
  let v16 : BitVec 32 := Scalar.extui v15
  let c0_i32_6 : BitVec 32 := 0#32
  let v17 : BitVec 1 := Scalar.cmpi .ne v16 c0_i32_6
  v17

def k0_mult4 (i : grid0.Coords) : BitVec 32 :=
  let c2433024_i32 : BitVec 32 := 2433024#32
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v14 : BitVec 32 := Scalar.addi c96_i32 v1
  let c16384_i32 : BitVec 32 := 16384#32
  let v21 : BitVec 32 := Scalar.muli v14 c16384_i32
  let v22 : BitVec 32 := Scalar.addi c2433024_i32 v21
  v22
def k0_off4 (i : grid0.Coords) : Fin 2 → Nat :=
  let c0_i32_8_r6 : BitVec 32 := 0#32
  let c2433024_i32 : BitVec 32 := 2433024#32
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v14 : BitVec 32 := Scalar.addi c96_i32 v1
  let c16384_i32 : BitVec 32 := 16384#32
  let v21 : BitVec 32 := Scalar.muli v14 c16384_i32
  let v22 : BitVec 32 := Scalar.addi c2433024_i32 v21
  let v23 : BitVec 32 := v22
  ![0, v23.toNat]
abbrev grid1 : Pipeline.Grid := ⟨1, ![33], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S2x73728 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S131072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x73728 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S131072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x4294967 : Shape := ⟨2, ![2, 4294967]⟩
abbrev S4294967 : Shape := ⟨1, ![4294967]⟩
abbrev S_ : Shape := ⟨0, ![]⟩
abbrev S1 : Shape := ⟨1, ![1]⟩
abbrev S2 : Shape := ⟨1, ![2]⟩

abbrev nBuf : Space → Nat
  | .hbm => 285
  | .vmem => 0
  | .smem => 0
  | _ => 0

abbrev hbmTy0_0 (i : Nat) : BufTy := match i % 128 with
  | 0 => ⟨S2x4294967, .i32⟩
  | 1 => ⟨S4294967, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1, .f32⟩
  | 17 => ⟨S1, .f32⟩
  | 18 => ⟨S1, .i32⟩
  | 19 => ⟨S_, .i32⟩
  | 20 => ⟨S1, .i32⟩
  | 21 => ⟨S_, .i32⟩
  | 22 => ⟨S4294967, .i64⟩
  | 23 => ⟨S_, .i64⟩
  | 24 => ⟨S4294967, .i64⟩
  | 25 => ⟨S4294967, .i64⟩
  | 26 => ⟨S_, .i64⟩
  | 27 => ⟨S4294967, .i64⟩
  | 28 => ⟨S4294967, .i64⟩
  | 29 => ⟨S4294967, .i32⟩
  | 30 => ⟨S4294967, .i32⟩
  | 31 => ⟨S_, .i32⟩
  | 32 => ⟨S_, .i32⟩
  | 33 => ⟨S_, .i32⟩
  | 34 => ⟨S4294967, .i32⟩
  | 35 => ⟨S4294967, .i32⟩
  | 36 => ⟨S4294967, .i32⟩
  | 37 => ⟨S4294967, .i32⟩
  | 38 => ⟨S4294967, .i32⟩
  | 39 => ⟨S_, .i32⟩
  | 40 => ⟨S4294967, .i32⟩
  | 41 => ⟨S4294967, .i32⟩
  | 42 => ⟨S_, .i32⟩
  | 43 => ⟨S4294967, .i32⟩
  | 44 => ⟨S4294967, .i32⟩
  | 45 => ⟨S4294967, .i32⟩
  | 46 => ⟨S4294967, .i32⟩
  | 47 => ⟨S4294967, .i32⟩
  | 48 => ⟨S_, .i32⟩
  | 49 => ⟨S4294967, .i32⟩
  | 50 => ⟨S4294967, .i32⟩
  | 51 => ⟨S_, .i32⟩
  | 52 => ⟨S4294967, .i32⟩
  | 53 => ⟨S4294967, .i32⟩
  | 54 => ⟨S4294967, .i32⟩
  | 55 => ⟨S4294967, .i32⟩
  | 56 => ⟨S4294967, .i32⟩
  | 57 => ⟨S_, .i32⟩
  | 58 => ⟨S4294967, .i32⟩
  | 59 => ⟨S4294967, .i32⟩
  | 60 => ⟨S_, .i32⟩
  | 61 => ⟨S4294967, .i32⟩
  | 62 => ⟨S4294967, .i32⟩
  | 63 => ⟨S4294967, .i32⟩
  | 64 => ⟨S4294967, .i32⟩
  | 65 => ⟨S4294967, .i32⟩
  | 66 => ⟨S_, .i32⟩
  | 67 => ⟨S4294967, .i32⟩
  | 68 => ⟨S4294967, .i32⟩
  | 69 => ⟨S_, .i32⟩
  | 70 => ⟨S4294967, .i32⟩
  | 71 => ⟨S4294967, .i32⟩
  | 72 => ⟨S4294967, .i32⟩
  | 73 => ⟨S4294967, .i32⟩
  | 74 => ⟨S4294967, .i32⟩
  | 75 => ⟨S4294967, .i32⟩
  | 76 => ⟨S4294967, .i32⟩
  | 77 => ⟨S4294967, .i32⟩
  | 78 => ⟨S_, .i32⟩
  | 79 => ⟨S4294967, .i32⟩
  | 80 => ⟨S4294967, .i32⟩
  | 81 => ⟨S4294967, .i32⟩
  | 82 => ⟨S_, .i32⟩
  | 83 => ⟨S4294967, .i32⟩
  | 84 => ⟨S4294967, .i32⟩
  | 85 => ⟨S_, .i32⟩
  | 86 => ⟨S4294967, .i32⟩
  | 87 => ⟨S4294967, .i32⟩
  | 88 => ⟨S4294967, .i32⟩
  | 89 => ⟨S4294967, .i32⟩
  | 90 => ⟨S4294967, .i32⟩
  | 91 => ⟨S_, .i32⟩
  | 92 => ⟨S4294967, .i32⟩
  | 93 => ⟨S4294967, .i32⟩
  | 94 => ⟨S_, .i32⟩
  | 95 => ⟨S4294967, .i32⟩
  | 96 => ⟨S4294967, .i32⟩
  | 97 => ⟨S4294967, .i32⟩
  | 98 => ⟨S4294967, .i32⟩
  | 99 => ⟨S4294967, .i32⟩
  | 100 => ⟨S_, .i32⟩
  | 101 => ⟨S4294967, .i32⟩
  | 102 => ⟨S4294967, .i32⟩
  | 103 => ⟨S_, .i32⟩
  | 104 => ⟨S4294967, .i32⟩
  | 105 => ⟨S4294967, .i32⟩
  | 106 => ⟨S4294967, .i32⟩
  | 107 => ⟨S4294967, .i32⟩
  | 108 => ⟨S4294967, .i32⟩
  | 109 => ⟨S_, .i32⟩
  | 110 => ⟨S4294967, .i32⟩
  | 111 => ⟨S4294967, .i32⟩
  | 112 => ⟨S_, .i32⟩
  | 113 => ⟨S4294967, .i32⟩
  | 114 => ⟨S4294967, .i32⟩
  | 115 => ⟨S4294967, .i32⟩
  | 116 => ⟨S4294967, .i32⟩
  | 117 => ⟨S4294967, .i32⟩
  | 118 => ⟨S4294967, .i32⟩
  | 119 => ⟨S4294967, .i32⟩
  | 120 => ⟨S4294967, .i32⟩
  | 121 => ⟨S_, .i32⟩
  | 122 => ⟨S4294967, .i32⟩
  | 123 => ⟨S4294967, .i32⟩
  | 124 => ⟨S4294967, .i32⟩
  | 125 => ⟨S_, .i32⟩
  | 126 => ⟨S4294967, .i32⟩
  | 127 => ⟨S4294967, .i32⟩
  | _ => ⟨S2x4294967, .i32⟩

abbrev hbmTy0_1 (i : Nat) : BufTy := match i % 128 with
  | 0 => ⟨S_, .i32⟩
  | 1 => ⟨S4294967, .i32⟩
  | 2 => ⟨S4294967, .i32⟩
  | 3 => ⟨S4294967, .i32⟩
  | 4 => ⟨S4294967, .i32⟩
  | 5 => ⟨S4294967, .i32⟩
  | 6 => ⟨S_, .i32⟩
  | 7 => ⟨S4294967, .i32⟩
  | 8 => ⟨S4294967, .i32⟩
  | 9 => ⟨S_, .i32⟩
  | 10 => ⟨S4294967, .i32⟩
  | 11 => ⟨S4294967, .i32⟩
  | 12 => ⟨S4294967, .i32⟩
  | 13 => ⟨S4294967, .i32⟩
  | 14 => ⟨S4294967, .i32⟩
  | 15 => ⟨S_, .i32⟩
  | 16 => ⟨S4294967, .i32⟩
  | 17 => ⟨S4294967, .i32⟩
  | 18 => ⟨S_, .i32⟩
  | 19 => ⟨S4294967, .i32⟩
  | 20 => ⟨S4294967, .i32⟩
  | 21 => ⟨S4294967, .i32⟩
  | 22 => ⟨S4294967, .i32⟩
  | 23 => ⟨S4294967, .i32⟩
  | 24 => ⟨S_, .i32⟩
  | 25 => ⟨S4294967, .i32⟩
  | 26 => ⟨S4294967, .i32⟩
  | 27 => ⟨S_, .i32⟩
  | 28 => ⟨S4294967, .i32⟩
  | 29 => ⟨S4294967, .i32⟩
  | 30 => ⟨S4294967, .i32⟩
  | 31 => ⟨S4294967, .i32⟩
  | 32 => ⟨S4294967, .i32⟩
  | 33 => ⟨S4294967, .i32⟩
  | 34 => ⟨S4294967, .i32⟩
  | 35 => ⟨S4294967, .i32⟩
  | 36 => ⟨S_, .i32⟩
  | 37 => ⟨S4294967, .i32⟩
  | 38 => ⟨S4294967, .i32⟩
  | 39 => ⟨S4294967, .i32⟩
  | 40 => ⟨S_, .i32⟩
  | 41 => ⟨S4294967, .i32⟩
  | 42 => ⟨S4294967, .i32⟩
  | 43 => ⟨S_, .i32⟩
  | 44 => ⟨S4294967, .i32⟩
  | 45 => ⟨S4294967, .i32⟩
  | 46 => ⟨S4294967, .i32⟩
  | 47 => ⟨S4294967, .i32⟩
  | 48 => ⟨S4294967, .i32⟩
  | 49 => ⟨S_, .i32⟩
  | 50 => ⟨S4294967, .i32⟩
  | 51 => ⟨S4294967, .i32⟩
  | 52 => ⟨S_, .i32⟩
  | 53 => ⟨S4294967, .i32⟩
  | 54 => ⟨S4294967, .i32⟩
  | 55 => ⟨S4294967, .i32⟩
  | 56 => ⟨S4294967, .i32⟩
  | 57 => ⟨S4294967, .i32⟩
  | 58 => ⟨S_, .i32⟩
  | 59 => ⟨S4294967, .i32⟩
  | 60 => ⟨S4294967, .i32⟩
  | 61 => ⟨S_, .i32⟩
  | 62 => ⟨S4294967, .i32⟩
  | 63 => ⟨S4294967, .i32⟩
  | 64 => ⟨S4294967, .i32⟩
  | 65 => ⟨S4294967, .i32⟩
  | 66 => ⟨S4294967, .i32⟩
  | 67 => ⟨S_, .i32⟩
  | 68 => ⟨S4294967, .i32⟩
  | 69 => ⟨S4294967, .i32⟩
  | 70 => ⟨S_, .i32⟩
  | 71 => ⟨S4294967, .i32⟩
  | 72 => ⟨S4294967, .i32⟩
  | 73 => ⟨S4294967, .i32⟩
  | 74 => ⟨S4294967, .i32⟩
  | 75 => ⟨S4294967, .i32⟩
  | 76 => ⟨S4294967, .i32⟩
  | 77 => ⟨S4294967, .i32⟩
  | 78 => ⟨S4294967, .i32⟩
  | 79 => ⟨S_, .i32⟩
  | 80 => ⟨S4294967, .i32⟩
  | 81 => ⟨S4294967, .i32⟩
  | 82 => ⟨S4294967, .i32⟩
  | 83 => ⟨S_, .i32⟩
  | 84 => ⟨S4294967, .i32⟩
  | 85 => ⟨S4294967, .i32⟩
  | 86 => ⟨S_, .i32⟩
  | 87 => ⟨S4294967, .i32⟩
  | 88 => ⟨S4294967, .i32⟩
  | 89 => ⟨S4294967, .i32⟩
  | 90 => ⟨S4294967, .i32⟩
  | 91 => ⟨S4294967, .i32⟩
  | 92 => ⟨S_, .i32⟩
  | 93 => ⟨S4294967, .i32⟩
  | 94 => ⟨S4294967, .i32⟩
  | 95 => ⟨S_, .i32⟩
  | 96 => ⟨S4294967, .i32⟩
  | 97 => ⟨S4294967, .i32⟩
  | 98 => ⟨S4294967, .i32⟩
  | 99 => ⟨S4294967, .i32⟩
  | 100 => ⟨S4294967, .i32⟩
  | 101 => ⟨S_, .i32⟩
  | 102 => ⟨S4294967, .i32⟩
  | 103 => ⟨S4294967, .i32⟩
  | 104 => ⟨S_, .i32⟩
  | 105 => ⟨S4294967, .i32⟩
  | 106 => ⟨S4294967, .i32⟩
  | 107 => ⟨S4294967, .i32⟩
  | 108 => ⟨S4294967, .i32⟩
  | 109 => ⟨S4294967, .i32⟩
  | 110 => ⟨S_, .i32⟩
  | 111 => ⟨S4294967, .i32⟩
  | 112 => ⟨S4294967, .i32⟩
  | 113 => ⟨S_, .i32⟩
  | 114 => ⟨S4294967, .i32⟩
  | 115 => ⟨S4294967, .i32⟩
  | 116 => ⟨S4294967, .i32⟩
  | 117 => ⟨S4294967, .i32⟩
  | 118 => ⟨S4294967, .i32⟩
  | 119 => ⟨S4294967, .i32⟩
  | 120 => ⟨S4294967, .i32⟩
  | 121 => ⟨S4294967, .i32⟩
  | 122 => ⟨S_, .i32⟩
  | 123 => ⟨S4294967, .i32⟩
  | 124 => ⟨S4294967, .i32⟩
  | 125 => ⟨S4294967, .i32⟩
  | 126 => ⟨S_, .i32⟩
  | 127 => ⟨S4294967, .i32⟩
  | _ => ⟨S2x4294967, .i32⟩

abbrev hbmTy0_2 (i : Nat) : BufTy := match i % 128 with
  | 0 => ⟨S4294967, .i32⟩
  | 1 => ⟨S_, .i32⟩
  | 2 => ⟨S4294967, .i32⟩
  | 3 => ⟨S4294967, .i32⟩
  | 4 => ⟨S4294967, .f32⟩
  | 5 => ⟨S_, .f32⟩
  | 6 => ⟨S4294967, .f32⟩
  | 7 => ⟨S4294967, .f32⟩
  | 8 => ⟨S1, .f32⟩
  | 9 => ⟨S4294967, .f32⟩
  | 10 => ⟨S4294967, .f32⟩
  | 11 => ⟨S4294967, .f32⟩
  | 12 => ⟨S4294967, .f32⟩
  | 13 => ⟨S4294967, .f32⟩
  | 14 => ⟨S4294967, .f32⟩
  | 15 => ⟨S_, .f32⟩
  | 16 => ⟨S4294967, .f32⟩
  | 17 => ⟨S4294967, .f32⟩
  | 18 => ⟨S4294967, .f32⟩
  | 19 => ⟨S_, .f32⟩
  | 20 => ⟨S4294967, .f32⟩
  | 21 => ⟨S4294967, .i1⟩
  | 22 => ⟨S4294967, .i1⟩
  | 23 => ⟨S_, .f32⟩
  | 24 => ⟨S4294967, .f32⟩
  | 25 => ⟨S4294967, .f32⟩
  | 26 => ⟨S_, .f32⟩
  | 27 => ⟨S4294967, .f32⟩
  | 28 => ⟨S4294967, .f32⟩
  | _ => ⟨S2x4294967, .i32⟩

abbrev hbmTy (i : Nat) : BufTy := match i / 128 with
  | 0 => hbmTy0_0 i
  | 1 => hbmTy0_1 i
  | 2 => hbmTy0_2 i
  | _ => ⟨S2x4294967, .i32⟩

abbrev bufTy : (tb : Table) → Fin (tcTables nBuf tb) → BufTy
  | .hbm, ⟨i, _⟩ => hbmTy i
  | _, _ => ⟨S2x4294967, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_c_0 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_call0_v0 : Ref sig .tc := ⟨.hbm, 31, rfl⟩
abbrev main_call0_call0_c : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_c_0 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_c_1 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_call0_v12 : Ref sig .tc := ⟨.hbm, 46, rfl⟩
abbrev main_call0_call0_v13 : Ref sig .tc := ⟨.hbm, 47, rfl⟩
abbrev main_call0_call0_c_2 : Ref sig .tc := ⟨.hbm, 48, rfl⟩
abbrev main_call0_call0_v14 : Ref sig .tc := ⟨.hbm, 49, rfl⟩
abbrev main_call0_call0_v15 : Ref sig .tc := ⟨.hbm, 50, rfl⟩
abbrev main_call0_call0_c_3 : Ref sig .tc := ⟨.hbm, 51, rfl⟩
abbrev main_call0_call0_v16 : Ref sig .tc := ⟨.hbm, 52, rfl⟩
abbrev main_call0_call0_v17 : Ref sig .tc := ⟨.hbm, 53, rfl⟩
abbrev main_call0_call0_v18 : Ref sig .tc := ⟨.hbm, 54, rfl⟩
abbrev main_call0_call0_v19 : Ref sig .tc := ⟨.hbm, 55, rfl⟩
abbrev main_call0_call0_v20 : Ref sig .tc := ⟨.hbm, 56, rfl⟩
abbrev main_call0_call0_c_4 : Ref sig .tc := ⟨.hbm, 57, rfl⟩
abbrev main_call0_call0_v21 : Ref sig .tc := ⟨.hbm, 58, rfl⟩
abbrev main_call0_call0_v22 : Ref sig .tc := ⟨.hbm, 59, rfl⟩
abbrev main_call0_call0_c_5 : Ref sig .tc := ⟨.hbm, 60, rfl⟩
abbrev main_call0_call0_v23 : Ref sig .tc := ⟨.hbm, 61, rfl⟩
abbrev main_call0_call0_v24 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_v27 : Ref sig .tc := ⟨.hbm, 65, rfl⟩
abbrev main_call0_call0_c_6 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_c_7 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_v32 : Ref sig .tc := ⟨.hbm, 72, rfl⟩
abbrev main_call0_call0_v33 : Ref sig .tc := ⟨.hbm, 73, rfl⟩
abbrev main_call0_call0_v34 : Ref sig .tc := ⟨.hbm, 74, rfl⟩
abbrev main_call0_call0_v35 : Ref sig .tc := ⟨.hbm, 75, rfl⟩
abbrev main_call0_call0_v36 : Ref sig .tc := ⟨.hbm, 76, rfl⟩
abbrev main_call0_call0_v37 : Ref sig .tc := ⟨.hbm, 77, rfl⟩
abbrev main_call0_call0_c_8 : Ref sig .tc := ⟨.hbm, 78, rfl⟩
abbrev main_call0_call0_v38 : Ref sig .tc := ⟨.hbm, 79, rfl⟩
abbrev main_call0_call0_v39 : Ref sig .tc := ⟨.hbm, 80, rfl⟩
abbrev main_call0_call0_v40 : Ref sig .tc := ⟨.hbm, 81, rfl⟩
abbrev main_call0_call0_c_9 : Ref sig .tc := ⟨.hbm, 82, rfl⟩
abbrev main_call0_call0_v41 : Ref sig .tc := ⟨.hbm, 83, rfl⟩
abbrev main_call0_call0_v42 : Ref sig .tc := ⟨.hbm, 84, rfl⟩
abbrev main_call0_call0_c_10 : Ref sig .tc := ⟨.hbm, 85, rfl⟩
abbrev main_call0_call0_v43 : Ref sig .tc := ⟨.hbm, 86, rfl⟩
abbrev main_call0_call0_v44 : Ref sig .tc := ⟨.hbm, 87, rfl⟩
abbrev main_call0_call0_v45 : Ref sig .tc := ⟨.hbm, 88, rfl⟩
abbrev main_call0_call0_v46 : Ref sig .tc := ⟨.hbm, 89, rfl⟩
abbrev main_call0_call0_v47 : Ref sig .tc := ⟨.hbm, 90, rfl⟩
abbrev main_call0_call0_c_11 : Ref sig .tc := ⟨.hbm, 91, rfl⟩
abbrev main_call0_call0_v48 : Ref sig .tc := ⟨.hbm, 92, rfl⟩
abbrev main_call0_call0_v49 : Ref sig .tc := ⟨.hbm, 93, rfl⟩
abbrev main_call0_call0_c_12 : Ref sig .tc := ⟨.hbm, 94, rfl⟩
abbrev main_call0_call0_v50 : Ref sig .tc := ⟨.hbm, 95, rfl⟩
abbrev main_call0_call0_v51 : Ref sig .tc := ⟨.hbm, 96, rfl⟩
abbrev main_call0_call0_v52 : Ref sig .tc := ⟨.hbm, 97, rfl⟩
abbrev main_call0_call0_v53 : Ref sig .tc := ⟨.hbm, 98, rfl⟩
abbrev main_call0_call0_v54 : Ref sig .tc := ⟨.hbm, 99, rfl⟩
abbrev main_call0_call0_c_13 : Ref sig .tc := ⟨.hbm, 100, rfl⟩
abbrev main_call0_call0_v55 : Ref sig .tc := ⟨.hbm, 101, rfl⟩
abbrev main_call0_call0_v56 : Ref sig .tc := ⟨.hbm, 102, rfl⟩
abbrev main_call0_call0_c_14 : Ref sig .tc := ⟨.hbm, 103, rfl⟩
abbrev main_call0_call0_v57 : Ref sig .tc := ⟨.hbm, 104, rfl⟩
abbrev main_call0_call0_v58 : Ref sig .tc := ⟨.hbm, 105, rfl⟩
abbrev main_call0_call0_v59 : Ref sig .tc := ⟨.hbm, 106, rfl⟩
abbrev main_call0_call0_v60 : Ref sig .tc := ⟨.hbm, 107, rfl⟩
abbrev main_call0_call0_v61 : Ref sig .tc := ⟨.hbm, 108, rfl⟩
abbrev main_call0_call0_c_15 : Ref sig .tc := ⟨.hbm, 109, rfl⟩
abbrev main_call0_call0_v62 : Ref sig .tc := ⟨.hbm, 110, rfl⟩
abbrev main_call0_call0_v63 : Ref sig .tc := ⟨.hbm, 111, rfl⟩
abbrev main_call0_call0_c_16 : Ref sig .tc := ⟨.hbm, 112, rfl⟩
abbrev main_call0_call0_v64 : Ref sig .tc := ⟨.hbm, 113, rfl⟩
abbrev main_call0_call0_v65 : Ref sig .tc := ⟨.hbm, 114, rfl⟩
abbrev main_call0_call0_v66 : Ref sig .tc := ⟨.hbm, 115, rfl⟩
abbrev main_call0_call0_v67 : Ref sig .tc := ⟨.hbm, 116, rfl⟩
abbrev main_call0_call0_v68 : Ref sig .tc := ⟨.hbm, 117, rfl⟩
abbrev main_call0_call0_v69 : Ref sig .tc := ⟨.hbm, 118, rfl⟩
abbrev main_call0_call0_v70 : Ref sig .tc := ⟨.hbm, 119, rfl⟩
abbrev main_call0_call0_v71 : Ref sig .tc := ⟨.hbm, 120, rfl⟩
abbrev main_call0_call0_c_17 : Ref sig .tc := ⟨.hbm, 121, rfl⟩
abbrev main_call0_call0_v72 : Ref sig .tc := ⟨.hbm, 122, rfl⟩
abbrev main_call0_call0_v73 : Ref sig .tc := ⟨.hbm, 123, rfl⟩
abbrev main_call0_call0_v74 : Ref sig .tc := ⟨.hbm, 124, rfl⟩
abbrev main_call0_call0_c_18 : Ref sig .tc := ⟨.hbm, 125, rfl⟩
abbrev main_call0_call0_v75 : Ref sig .tc := ⟨.hbm, 126, rfl⟩
abbrev main_call0_call0_v76 : Ref sig .tc := ⟨.hbm, 127, rfl⟩
abbrev main_call0_call0_c_19 : Ref sig .tc := ⟨.hbm, 128, rfl⟩
abbrev main_call0_call0_v77 : Ref sig .tc := ⟨.hbm, 129, rfl⟩
abbrev main_call0_call0_v78 : Ref sig .tc := ⟨.hbm, 130, rfl⟩
abbrev main_call0_call0_v79 : Ref sig .tc := ⟨.hbm, 131, rfl⟩
abbrev main_call0_call0_v80 : Ref sig .tc := ⟨.hbm, 132, rfl⟩
abbrev main_call0_call0_v81 : Ref sig .tc := ⟨.hbm, 133, rfl⟩
abbrev main_call0_call0_c_20 : Ref sig .tc := ⟨.hbm, 134, rfl⟩
abbrev main_call0_call0_v82 : Ref sig .tc := ⟨.hbm, 135, rfl⟩
abbrev main_call0_call0_v83 : Ref sig .tc := ⟨.hbm, 136, rfl⟩
abbrev main_call0_call0_c_21 : Ref sig .tc := ⟨.hbm, 137, rfl⟩
abbrev main_call0_call0_v84 : Ref sig .tc := ⟨.hbm, 138, rfl⟩
abbrev main_call0_call0_v85 : Ref sig .tc := ⟨.hbm, 139, rfl⟩
abbrev main_call0_call0_v86 : Ref sig .tc := ⟨.hbm, 140, rfl⟩
abbrev main_call0_call0_v87 : Ref sig .tc := ⟨.hbm, 141, rfl⟩
abbrev main_call0_call0_v88 : Ref sig .tc := ⟨.hbm, 142, rfl⟩
abbrev main_call0_call0_c_22 : Ref sig .tc := ⟨.hbm, 143, rfl⟩
abbrev main_call0_call0_v89 : Ref sig .tc := ⟨.hbm, 144, rfl⟩
abbrev main_call0_call0_v90 : Ref sig .tc := ⟨.hbm, 145, rfl⟩
abbrev main_call0_call0_c_23 : Ref sig .tc := ⟨.hbm, 146, rfl⟩
abbrev main_call0_call0_v91 : Ref sig .tc := ⟨.hbm, 147, rfl⟩
abbrev main_call0_call0_v92 : Ref sig .tc := ⟨.hbm, 148, rfl⟩
abbrev main_call0_call0_v93 : Ref sig .tc := ⟨.hbm, 149, rfl⟩
abbrev main_call0_call0_v94 : Ref sig .tc := ⟨.hbm, 150, rfl⟩
abbrev main_call0_call0_v95 : Ref sig .tc := ⟨.hbm, 151, rfl⟩
abbrev main_call0_call0_c_24 : Ref sig .tc := ⟨.hbm, 152, rfl⟩
abbrev main_call0_call0_v96 : Ref sig .tc := ⟨.hbm, 153, rfl⟩
abbrev main_call0_call0_v97 : Ref sig .tc := ⟨.hbm, 154, rfl⟩
abbrev main_call0_call0_c_25 : Ref sig .tc := ⟨.hbm, 155, rfl⟩
abbrev main_call0_call0_v98 : Ref sig .tc := ⟨.hbm, 156, rfl⟩
abbrev main_call0_call0_v99 : Ref sig .tc := ⟨.hbm, 157, rfl⟩
abbrev main_call0_call0_v100 : Ref sig .tc := ⟨.hbm, 158, rfl⟩
abbrev main_call0_call0_v101 : Ref sig .tc := ⟨.hbm, 159, rfl⟩
abbrev main_call0_call0_v102 : Ref sig .tc := ⟨.hbm, 160, rfl⟩
abbrev main_call0_call0_v103 : Ref sig .tc := ⟨.hbm, 161, rfl⟩
abbrev main_call0_call0_v104 : Ref sig .tc := ⟨.hbm, 162, rfl⟩
abbrev main_call0_call0_v105 : Ref sig .tc := ⟨.hbm, 163, rfl⟩
abbrev main_call0_call0_c_26 : Ref sig .tc := ⟨.hbm, 164, rfl⟩
abbrev main_call0_call0_v106 : Ref sig .tc := ⟨.hbm, 165, rfl⟩
abbrev main_call0_call0_v107 : Ref sig .tc := ⟨.hbm, 166, rfl⟩
abbrev main_call0_call0_v108 : Ref sig .tc := ⟨.hbm, 167, rfl⟩
abbrev main_call0_call0_c_27 : Ref sig .tc := ⟨.hbm, 168, rfl⟩
abbrev main_call0_call0_v109 : Ref sig .tc := ⟨.hbm, 169, rfl⟩
abbrev main_call0_call0_v110 : Ref sig .tc := ⟨.hbm, 170, rfl⟩
abbrev main_call0_call0_c_28 : Ref sig .tc := ⟨.hbm, 171, rfl⟩
abbrev main_call0_call0_v111 : Ref sig .tc := ⟨.hbm, 172, rfl⟩
abbrev main_call0_call0_v112 : Ref sig .tc := ⟨.hbm, 173, rfl⟩
abbrev main_call0_call0_v113 : Ref sig .tc := ⟨.hbm, 174, rfl⟩
abbrev main_call0_call0_v114 : Ref sig .tc := ⟨.hbm, 175, rfl⟩
abbrev main_call0_call0_v115 : Ref sig .tc := ⟨.hbm, 176, rfl⟩
abbrev main_call0_call0_c_29 : Ref sig .tc := ⟨.hbm, 177, rfl⟩
abbrev main_call0_call0_v116 : Ref sig .tc := ⟨.hbm, 178, rfl⟩
abbrev main_call0_call0_v117 : Ref sig .tc := ⟨.hbm, 179, rfl⟩
abbrev main_call0_call0_c_30 : Ref sig .tc := ⟨.hbm, 180, rfl⟩
abbrev main_call0_call0_v118 : Ref sig .tc := ⟨.hbm, 181, rfl⟩
abbrev main_call0_call0_v119 : Ref sig .tc := ⟨.hbm, 182, rfl⟩
abbrev main_call0_call0_v120 : Ref sig .tc := ⟨.hbm, 183, rfl⟩
abbrev main_call0_call0_v121 : Ref sig .tc := ⟨.hbm, 184, rfl⟩
abbrev main_call0_call0_v122 : Ref sig .tc := ⟨.hbm, 185, rfl⟩
abbrev main_call0_call0_c_31 : Ref sig .tc := ⟨.hbm, 186, rfl⟩
abbrev main_call0_call0_v123 : Ref sig .tc := ⟨.hbm, 187, rfl⟩
abbrev main_call0_call0_v124 : Ref sig .tc := ⟨.hbm, 188, rfl⟩
abbrev main_call0_call0_c_32 : Ref sig .tc := ⟨.hbm, 189, rfl⟩
abbrev main_call0_call0_v125 : Ref sig .tc := ⟨.hbm, 190, rfl⟩
abbrev main_call0_call0_v126 : Ref sig .tc := ⟨.hbm, 191, rfl⟩
abbrev main_call0_call0_v127 : Ref sig .tc := ⟨.hbm, 192, rfl⟩
abbrev main_call0_call0_v128 : Ref sig .tc := ⟨.hbm, 193, rfl⟩
abbrev main_call0_call0_v129 : Ref sig .tc := ⟨.hbm, 194, rfl⟩
abbrev main_call0_call0_c_33 : Ref sig .tc := ⟨.hbm, 195, rfl⟩
abbrev main_call0_call0_v130 : Ref sig .tc := ⟨.hbm, 196, rfl⟩
abbrev main_call0_call0_v131 : Ref sig .tc := ⟨.hbm, 197, rfl⟩
abbrev main_call0_call0_c_34 : Ref sig .tc := ⟨.hbm, 198, rfl⟩
abbrev main_call0_call0_v132 : Ref sig .tc := ⟨.hbm, 199, rfl⟩
abbrev main_call0_call0_v133 : Ref sig .tc := ⟨.hbm, 200, rfl⟩
abbrev main_call0_call0_v134 : Ref sig .tc := ⟨.hbm, 201, rfl⟩
abbrev main_call0_call0_v135 : Ref sig .tc := ⟨.hbm, 202, rfl⟩
abbrev main_call0_call0_v136 : Ref sig .tc := ⟨.hbm, 203, rfl⟩
abbrev main_call0_call0_v137 : Ref sig .tc := ⟨.hbm, 204, rfl⟩
abbrev main_call0_call0_v138 : Ref sig .tc := ⟨.hbm, 205, rfl⟩
abbrev main_call0_call0_v139 : Ref sig .tc := ⟨.hbm, 206, rfl⟩
abbrev main_call0_call0_c_35 : Ref sig .tc := ⟨.hbm, 207, rfl⟩
abbrev main_call0_call0_v140 : Ref sig .tc := ⟨.hbm, 208, rfl⟩
abbrev main_call0_call0_v141 : Ref sig .tc := ⟨.hbm, 209, rfl⟩
abbrev main_call0_call0_v142 : Ref sig .tc := ⟨.hbm, 210, rfl⟩
abbrev main_call0_call0_c_36 : Ref sig .tc := ⟨.hbm, 211, rfl⟩
abbrev main_call0_call0_v143 : Ref sig .tc := ⟨.hbm, 212, rfl⟩
abbrev main_call0_call0_v144 : Ref sig .tc := ⟨.hbm, 213, rfl⟩
abbrev main_call0_call0_c_37 : Ref sig .tc := ⟨.hbm, 214, rfl⟩
abbrev main_call0_call0_v145 : Ref sig .tc := ⟨.hbm, 215, rfl⟩
abbrev main_call0_call0_v146 : Ref sig .tc := ⟨.hbm, 216, rfl⟩
abbrev main_call0_call0_v147 : Ref sig .tc := ⟨.hbm, 217, rfl⟩
abbrev main_call0_call0_v148 : Ref sig .tc := ⟨.hbm, 218, rfl⟩
abbrev main_call0_call0_v149 : Ref sig .tc := ⟨.hbm, 219, rfl⟩
abbrev main_call0_call0_c_38 : Ref sig .tc := ⟨.hbm, 220, rfl⟩
abbrev main_call0_call0_v150 : Ref sig .tc := ⟨.hbm, 221, rfl⟩
abbrev main_call0_call0_v151 : Ref sig .tc := ⟨.hbm, 222, rfl⟩
abbrev main_call0_call0_c_39 : Ref sig .tc := ⟨.hbm, 223, rfl⟩
abbrev main_call0_call0_v152 : Ref sig .tc := ⟨.hbm, 224, rfl⟩
abbrev main_call0_call0_v153 : Ref sig .tc := ⟨.hbm, 225, rfl⟩
abbrev main_call0_call0_v154 : Ref sig .tc := ⟨.hbm, 226, rfl⟩
abbrev main_call0_call0_v155 : Ref sig .tc := ⟨.hbm, 227, rfl⟩
abbrev main_call0_call0_v156 : Ref sig .tc := ⟨.hbm, 228, rfl⟩
abbrev main_call0_call0_c_40 : Ref sig .tc := ⟨.hbm, 229, rfl⟩
abbrev main_call0_call0_v157 : Ref sig .tc := ⟨.hbm, 230, rfl⟩
abbrev main_call0_call0_v158 : Ref sig .tc := ⟨.hbm, 231, rfl⟩
abbrev main_call0_call0_c_41 : Ref sig .tc := ⟨.hbm, 232, rfl⟩
abbrev main_call0_call0_v159 : Ref sig .tc := ⟨.hbm, 233, rfl⟩
abbrev main_call0_call0_v160 : Ref sig .tc := ⟨.hbm, 234, rfl⟩
abbrev main_call0_call0_v161 : Ref sig .tc := ⟨.hbm, 235, rfl⟩
abbrev main_call0_call0_v162 : Ref sig .tc := ⟨.hbm, 236, rfl⟩
abbrev main_call0_call0_v163 : Ref sig .tc := ⟨.hbm, 237, rfl⟩
abbrev main_call0_call0_c_42 : Ref sig .tc := ⟨.hbm, 238, rfl⟩
abbrev main_call0_call0_v164 : Ref sig .tc := ⟨.hbm, 239, rfl⟩
abbrev main_call0_call0_v165 : Ref sig .tc := ⟨.hbm, 240, rfl⟩
abbrev main_call0_call0_c_43 : Ref sig .tc := ⟨.hbm, 241, rfl⟩
abbrev main_call0_call0_v166 : Ref sig .tc := ⟨.hbm, 242, rfl⟩
abbrev main_call0_call0_v167 : Ref sig .tc := ⟨.hbm, 243, rfl⟩
abbrev main_call0_call0_v168 : Ref sig .tc := ⟨.hbm, 244, rfl⟩
abbrev main_call0_call0_v169 : Ref sig .tc := ⟨.hbm, 245, rfl⟩
abbrev main_call0_call0_v170 : Ref sig .tc := ⟨.hbm, 246, rfl⟩
abbrev main_call0_v15_0 : Ref sig .tc := ⟨.hbm, 247, rfl⟩
abbrev main_call0_call0_v172 : Ref sig .tc := ⟨.hbm, 248, rfl⟩
abbrev main_call0_call0_v173 : Ref sig .tc := ⟨.hbm, 249, rfl⟩
abbrev main_call0_call0_c_44 : Ref sig .tc := ⟨.hbm, 250, rfl⟩
abbrev main_call0_call0_v174 : Ref sig .tc := ⟨.hbm, 251, rfl⟩
abbrev main_call0_v15_1 : Ref sig .tc := ⟨.hbm, 252, rfl⟩
abbrev main_call0_v16 : Ref sig .tc := ⟨.hbm, 253, rfl⟩
abbrev main_call0_c_1 : Ref sig .tc := ⟨.hbm, 254, rfl⟩
abbrev main_call0_v17 : Ref sig .tc := ⟨.hbm, 255, rfl⟩
abbrev main_call0_v18 : Ref sig .tc := ⟨.hbm, 256, rfl⟩
abbrev main_call0_c_2 : Ref sig .tc := ⟨.hbm, 257, rfl⟩
abbrev main_call0_v19 : Ref sig .tc := ⟨.hbm, 258, rfl⟩
abbrev main_call0_v20 : Ref sig .tc := ⟨.hbm, 259, rfl⟩
abbrev main_call0_v21 : Ref sig .tc := ⟨.hbm, 260, rfl⟩
abbrev main_call0_cst : Ref sig .tc := ⟨.hbm, 261, rfl⟩
abbrev main_call0_v22 : Ref sig .tc := ⟨.hbm, 262, rfl⟩
abbrev main_call0_v23 : Ref sig .tc := ⟨.hbm, 263, rfl⟩
abbrev main_call0_v24 : Ref sig .tc := ⟨.hbm, 264, rfl⟩
abbrev main_call0_v25 : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_v7 : Ref sig .tc := ⟨.hbm, 270, rfl⟩
abbrev main_cst_3 : Ref sig .tc := ⟨.hbm, 271, rfl⟩
abbrev main_v8 : Ref sig .tc := ⟨.hbm, 272, rfl⟩
abbrev main_v9 : Ref sig .tc := ⟨.hbm, 273, rfl⟩
abbrev main_v10 : Ref sig .tc := ⟨.hbm, 274, rfl⟩
abbrev main_cst_4 : Ref sig .tc := ⟨.hbm, 275, rfl⟩
abbrev main_v11 : Ref sig .tc := ⟨.hbm, 276, rfl⟩
abbrev main_v12 : Ref sig .tc := ⟨.hbm, 277, rfl⟩
abbrev main_v13 : Ref sig .tc := ⟨.hbm, 278, rfl⟩
abbrev main_cst_5 : Ref sig .tc := ⟨.hbm, 279, rfl⟩
abbrev main_v14 : Ref sig .tc := ⟨.hbm, 280, rfl⟩
abbrev main_v15 : Ref sig .tc := ⟨.hbm, 281, rfl⟩
abbrev main_cst_6 : Ref sig .tc := ⟨.hbm, 282, rfl⟩
abbrev main_v16 : Ref sig .tc := ⟨.hbm, 283, rfl⟩
abbrev main_v17 : Ref sig .tc := ⟨.hbm, 284, rfl⟩

abbrev nD : Nat := 1
abbrev τ : Topo := Topo.v7x

variable {F : FTy → Type} [FloatOps F]
-- ==== Proof.Tiles.lean ====
/-
  The SparseCore part of the kernel: what each of the 32 vector subcores copies, and that it does so.

  The task on subcore `(c, s)` has number `w = 2 * s + c`. It takes up to four blocks of 16384 columns of the index
  array, the blocks numbered `w`, `w + 32`, `w + 64`, `w + 96` of the 113 that start at column 2433024, and copies each
  through its own memory into the same columns of the output; the last task also copies the 10496 columns after the
  last whole block.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton

@[expose] public section

noncomputable section

namespace Cert.Proof.Drop

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and unscoped where they have to be. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, the counters of the local copies. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

/-- The index array, the array the SparseCore's call writes. -/
abbrev iLoc (d : Dev nD) : Loc nD τ sig := (SparseCore.T d).loc main_arg0
abbrev oLoc (d : Dev nD) : Loc nD τ sig := (SparseCore.T d).loc main_v0

local notation "iV" => (Memref.whole Cert.KernelIdeal.main_arg0_scv : Memref Cert.KernelIdeal.sig Kind.scVector Space.hbm Cert.KernelIdeal.S2x4294967 EltTy.i32)
local notation "oV" => (Memref.whole Cert.KernelIdeal.main_v0_scv : Memref Cert.KernelIdeal.sig Kind.scVector Space.hbm Cert.KernelIdeal.S2x4294967 EltTy.i32)
local notation "bV" => (Memref.whole Cert.KernelIdeal.cc0_scratch0 : Memref Cert.KernelIdeal.sig Kind.scVector Space.vmem Cert.KernelIdeal.S2x16384 EltTy.i32)

/-! ## Who writes which columns -/

/-- First column of piece `k` of the task on subcore `(c, s)`; piece 4 is the remainder after the whole blocks. -/
def lo (c : Fin 2) (s : Fin 16) (k : Fin 5) : ℕ :=
  if k.val < 4 then 2433024 + (32 * k.val + (2 * s.val + c.val)) * 16384 else 4284416

/-- The column after piece `k`'s last: the piece is empty when the task has no such block. -/
def hi (c : Fin 2) (s : Fin 16) (k : Fin 5) : ℕ :=
  if k.val < 4 then (if 32 * k.val + (2 * s.val + c.val) < 113 then lo c s k + 16384 else lo c s k)
  else if 2 * s.val + c.val = 31 then 4294912 else 4284416

/-- The elements of piece `k`: both rows of its columns. -/
def oSet (c : Fin 2) (s : Fin 16) (k : Fin 5) : Finset S2x4294967.Idx :=
  Finset.univ.filter fun j => lo c s k ≤ (j 1).val ∧ (j 1).val < hi c s k

theorem mem_oSet {c : Fin 2} {s : Fin 16} {k : Fin 5} {j : S2x4294967.Idx} :
    j ∈ oSet c s k ↔ lo c s k ≤ (j 1).val ∧ (j 1).val < hi c s k := by
  simp [oSet]

/-- Two different pieces share no column. -/
theorem oSet_disjoint {c c' : Fin 2} {s s' : Fin 16} {k k' : Fin 5} (h : ¬(c = c' ∧ s = s' ∧ k = k')) :
    Disjoint (oSet c s k) (oSet c' s' k') := by
  rw [Finset.disjoint_left]
  intro j hj hj'
  rw [mem_oSet] at hj hj'
  unfold hi lo at hj hj'
  have e1 := c.isLt; have e2 := c'.isLt; have e3 := s.isLt; have e4 := s'.isLt; have e5 := k.isLt; have e6 := k'.isLt
  apply h
  rw [Fin.ext_iff, Fin.ext_iff, Fin.ext_iff]
  split_ifs at hj hj' <;> omega

/-- Everything the task on `(c, s)` writes, and everything the SparseCore writes. -/
def tSet (c : Fin 2) (s : Fin 16) : Finset S2x4294967.Idx := Finset.univ.biUnion (oSet c s)
def cSet (c : Fin 2) : Finset S2x4294967.Idx := Finset.univ.biUnion (tSet c)
def scSet : Finset S2x4294967.Idx := Finset.univ.biUnion cSet

theorem mem_tSet {c : Fin 2} {s : Fin 16} {j : S2x4294967.Idx} : j ∈ tSet c s ↔ ∃ k, j ∈ oSet c s k := by
  simp [tSet]

theorem tSet_disjoint {c c' : Fin 2} {s s' : Fin 16} (h : ¬(c = c' ∧ s = s')) : Disjoint (tSet c s) (tSet c' s') := by
  unfold tSet
  rw [Finset.disjoint_biUnion_left]; intro k _
  rw [Finset.disjoint_biUnion_right]; intro k' _
  exact oSet_disjoint fun e => h ⟨e.1, e.2.1⟩

theorem cSet_disjoint {c c' : Fin 2} (h : c ≠ c') : Disjoint (cSet c) (cSet c') := by
  unfold cSet
  rw [Finset.disjoint_biUnion_left]; intro s _
  rw [Finset.disjoint_biUnion_right]; intro s' _
  exact tSet_disjoint fun e => h e.1

/-- The SparseCore writes the columns from 2433024 up to 4294912, all of them. -/
theorem mem_scSet {j : S2x4294967.Idx} : j ∈ scSet ↔ 2433024 ≤ (j 1).val ∧ (j 1).val < 4294912 := by
  simp only [scSet, cSet, tSet, Finset.mem_biUnion, Finset.mem_univ, true_and, mem_oSet]
  constructor
  · rintro ⟨c, s, k, h1, h2⟩
    unfold hi lo at h2; unfold lo at h1
    have e1 := c.isLt; have e3 := s.isLt; have e5 := k.isLt
    split_ifs at h1 h2 <;> omega
  · rintro ⟨h1, h2⟩
    by_cases h : (j 1).val < 4284416
    · have hg : ((j 1).val - 2433024) / 16384 < 113 := by omega
      generalize hgd : ((j 1).val - 2433024) / 16384 = g at hg
      refine ⟨⟨g % 2, by omega⟩, ⟨g % 32 / 2, by omega⟩, ⟨g / 32, by omega⟩, ?_, ?_⟩
      · unfold lo; simp only; rw [if_pos (by omega)]; omega
      · unfold hi lo; simp only; split_ifs <;> omega
    · refine ⟨1, 15, 4, ?_, ?_⟩
      · unfold lo; simp; omega
      · unfold hi; simp; omega

/-! ## What the handshakes carry -/

/-- The share of the index array the task on `(c, s)` reads. -/
abbrev cq (c : Fin 2) : PosShare TreeShare := ShareLeaves.leaf 1 fullShare c
abbrev tq (c : Fin 2) (s : Fin 16) : PosShare TreeShare := ShareLeaves.leaf 4 (cq c) s

/-- The index array's contents at launch, as contents of the output. -/
abbrev xo (d : Dev nD) : Buf (Elt F) (oLoc d) := m (iLoc d)

/-- What a task holds: its share of the indices, and its columns of the output at contents `f`. -/
abbrev taskPts (d : Dev nD) (c : Fin 2) (s : Fin 16) (f : Buf (Elt F) (oLoc d)) : sProp 𝕄 :=
  iprop((iLoc d ↦{tq c s} m (iLoc d)) ∗ oLoc d ↦[tSet c s]{fullShare} f)

/-- What one SparseCore's call holds: the same for its sixteen tasks together. -/
abbrev corePts (d : Dev nD) (c : Fin 2) (f : Buf (Elt F) (oLoc d)) : sProp 𝕄 :=
  iprop((iLoc d ↦{cq c} m (iLoc d)) ∗ oLoc d ↦[cSet c]{fullShare} f)

theorem nCore_zero : (K (F := F)).nCore 0 = 2 := rfl
theorem nSub_zero : (K (F := F)).nSub 0 = 16 := rfl

/-- The call hands the columns out at their launch contents and takes them back at the index array's. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (xo m d)
  go := fun q d c s => match q with | 0 => taskPts m d (Fin.cast nCore_zero c) (Fin.cast nSub_zero s) (m (oLoc d))
  td := fun q d c s => match q with | 0 => taskPts m d (Fin.cast nCore_zero c) (Fin.cast nSub_zero s) (xo m d)
  x := fun _ _ => iprop(emp)

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (xo m d)))
  go q d c s := match q with
    | 0 => (inferInstance : BI.Storable (upEmb : UEmb _ 𝕄) (taskPts m d (Fin.cast nCore_zero c) (Fin.cast nSub_zero s) (m (oLoc d))))
  td q d c s := match q with
    | 0 => (inferInstance : BI.Storable (upEmb : UEmb _ 𝕄) (taskPts m d (Fin.cast nCore_zero c) (Fin.cast nSub_zero s) (xo m d)))

/-- A SparseCore's holdings are its tasks'. -/
theorem corePts_tasks (d : Dev nD) (c : Fin 2) (f : Buf (Elt F) (oLoc d)) :
    corePts m d c f = bigSep Finset.univ fun s : Fin 16 => taskPts m d c s f := by
  unfold corePts taskPts
  rw [bigSep_sep', ShareLeaves.pointsTo_leaves Finset.univ (m (iLoc d)) 4 (cq c)]
  congr 1
  unfold cSet
  exact pointsTo_biUnion Finset.univ (ℓ := oLoc d) (tSet c) fun s _ s' _ h => tSet_disjoint fun e => h e.2

/-- The index array whole and the SparseCore's columns of the output are the two SparseCores' holdings. -/
theorem cores_eq (d : Dev nD) (f : Buf (Elt F) (oLoc d)) :
    (bigSep Finset.univ fun c : Fin 2 => corePts m d c f)
      = iprop((iLoc d ↦{fullShare} m (iLoc d)) ∗ oLoc d ↦[scSet]{fullShare} f) := by
  unfold corePts
  rw [bigSep_sep', ShareLeaves.pointsTo_leaves Finset.univ (m (iLoc d)) 1 fullShare]
  congr 1
  unfold scSet
  exact (pointsTo_biUnion Finset.univ (ℓ := oLoc d) cSet fun c _ c' _ h => cSet_disjoint h).symm

/-- Splitting a SparseCore's operands among its tasks loses nothing. -/
theorem vecSplit : (K (F := F)).VecSplit' (P m) 0 := by
  intro d c
  show corePts m d (Fin.cast nCore_zero c) (m (oLoc d)) ⊢ |={Set.univ}=> iprop(
      (bigSep Finset.univ fun s : Fin 16 => taskPts m d (Fin.cast nCore_zero c) s (m (oLoc d)))
      ∗ ((bigSep Finset.univ fun s : Fin 16 => taskPts m d (Fin.cast nCore_zero c) s (xo m d))
          -∗ corePts m d (Fin.cast nCore_zero c) (xo m d)))
  rw [corePts_tasks, corePts_tasks]
  iintro H; imodintro
  isplitl [H]; · iexact H
  iintro H; iexact H

/-! ## One task -/

section Tile

variable (d : Dev nD) (L : grid0.Coords)

/-- The task's processor, and its coordinates as the pieces are numbered by. -/
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

/-- Every task has its first three blocks; which have a fourth, and which copies the remainder. -/
theorem cond1_true : ∀ i : grid0.Coords, k0_cond1 i = 1#1 := by decide +kernel
theorem cond2_true : ∀ i : grid0.Coords, k0_cond2 i = 1#1 := by decide +kernel
theorem cond3_true : ∀ i : grid0.Coords, k0_cond3 i = 1#1 := by decide +kernel
theorem cond4_iff : ∀ i : grid0.Coords, k0_cond4 i = 1#1 ↔ 96 + (2 * (i 1).val + (i 0).val) < 113 := by decide +kernel

theorem cond5_iff : ∀ i : grid0.Coords, Scalar.cmpi .ne (Scalar.extui (Scalar.cmpi .eq
    (Scalar.addi (Scalar.muli (BitVec.ofNat 32 (i 1).val) 2#32) (BitVec.ofNat 32 (i 0).val)) 31#32) : BitVec 32) 0#32 = 1#1
      ↔ 2 * (i 1).val + (i 0).val = 31 := by decide +kernel

/-- The columns starting at `off`, as many as `n`, of a two-row array of the operands' shape. -/
theorem mem_cols {off size : Fin 2 → ℕ} {inb : ∀ a, off a + size a ≤ S2x4294967.size a} (h0 : off 0 = 0) (hs : size 0 = 2)
    {j : S2x4294967.Idx} : j ∈ (Rect.unit (s := S2x4294967) off size inb).set ↔ off 1 ≤ (j 1).val ∧ (j 1).val < off 1 + size 1 := by
  rw [Rect.mem_set_unit]
  constructor
  · intro h; exact h 1
  · intro h a
    match a with
    | 0 => have := (j 0).isLt; change (j 0).val < 2 at this; rw [h0, hs]; omega
    | 1 => exact h

/-- The columns a round's copy takes, of the index array and of the output, as the task addresses them. -/
abbrev colsK (off : Fin 2 → ℕ) (inb : ∀ a, off a + S2x16384.size a ≤ S2x4294967.size a) : Rect S2x4294967 :=
  Rect.unit (s := S2x4294967) off S2x16384.size inb
abbrev oK (off : Fin 2 → ℕ) (inb : ∀ a, off a + S2x16384.size a ≤ S2x4294967.size a) : Memref sig .scVector .hbm S2x16384 .i32 :=
  (oV).slice (colsK off inb) (fun _ => rfl)
/-- The remainder's columns of the output. -/
abbrev oR : Memref sig .scVector .hbm S2x10496 .i32 :=
  (oV).slice (Rect.unit (s := S2x4294967) ![0, 4284416] S2x10496.size inb_S2x4294967_S2x10496_0_4284416) (fun _ => rfl)

/-- A round's columns are its piece. -/
theorem set_oK {off : Fin 2 → ℕ} {inb} (k : Fin 5) (h0 : off 0 = 0) (h1 : off 1 = lo (cL L) (sL L) k) (h2 : hi (cL L) (sL L) k = off 1 + 16384) :
    (oK off inb).view.set = oSet (cL L) (sL L) k := by
  refine (View.set_slice_whole (main_v0_scv : Ref sig .scVector) (colsK off inb)).trans ?_
  ext j
  rw [mem_cols h0 rfl, mem_oSet, h2, ← h1]; rfl

theorem set_oR (h : 2 * (sL L).val + (cL L).val = 31) : (oR).view.set = oSet (cL L) (sL L) 4 := by
  refine (View.set_slice_whole (main_v0_scv : Ref sig .scVector) _).trans ?_
  ext j
  rw [mem_cols rfl rfl, mem_oSet]
  have hl : lo (cL L) (sL L) 4 = 4284416 := rfl
  have hh : hi (cL L) (sL L) 4 = 4294912 := by show (if _ then _ else _) = _; exact if_pos h
  rw [hl, hh]; rfl

/-- The task's ten copies each complete on a semaphore of their own. -/
abbrev sems : Fin 10 → DmaSem sig :=
  ![cc0_scoped0.sem, cc0_scoped1.sem, cc0_scoped2.sem, cc0_scoped3.sem, cc0_scoped4.sem, cc0_scoped5.sem, cc0_scoped6.sem,
    cc0_scoped7.sem, cc0_scoped8.sem, cc0_scoped9.sem]
theorem sems_inj : Function.Injective sems := by decide
theorem sems_scoped : ∀ k, (SemLoc.dma (sems k) : SemLoc sig).isScoped .scVector = true := by decide

abbrev cell (k : Fin 10) : GSem nD τ sig := (V d (cV L) (jV L), .dma (sems k))

theorem cell_injOn : Set.InjOn (cell d L) (Finset.univ : Finset (Fin 10)) := fun a _ b _ h => by
  have e : (cell d L a).2 = (cell d L b).2 := congrArg Prod.snd h
  exact sems_inj (SemLoc.dma.inj e)

theorem bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide]
  iterate 9 rw [SparseCore.bigSep_insert' (by decide)]
  rw [bigSep_singleton]

theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide]
  iterate 4 rw [SparseCore.bigSep_insert' (by decide)]
  rw [bigSep_singleton]

/-- The task's semaphores at zero are the ten it uses and others. -/
theorem ownSems0_V :
    (ownSems0 (V d (cV L) (jV L)) : sProp 𝕄)
      = iprop((bigSep Finset.univ fun k : Fin 10 => semVal (cell d L k) 0)
          ∗ bigSep (ownCells (V d (cV L) (jV L)) \ Finset.univ.image (cell d L)) fun g => semVal g 0) := by
  unfold SparseCore.Cfg.ownSems0
  have hs : Finset.univ.image (cell d L) ⊆ ownCells (V d (cV L) (jV L)) := fun x hx => by
    obtain ⟨k, _, rfl⟩ := Finset.mem_image.mp hx
    exact mem_ownCells.mpr ⟨rfl, sems_scoped k⟩
  rw [bigSep_sdiff_split hs, bigSep_image_of_injOn (cell_injOn d L)]; rfl

/-- The task's own buffers are its scratch and others. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The task's columns are its five pieces. -/
theorem tSet_pieces (c : Fin 2) (s : Fin 16) (f : Buf (Elt F) (oLoc d)) :
    (oLoc d ↦[tSet c s]{fullShare} f : sProp 𝕄) = bigSep Finset.univ fun k : Fin 5 => oLoc d ↦[oSet c s k]{fullShare} f :=
  pointsTo_biUnion Finset.univ (ℓ := oLoc d) (oSet c s) fun k _ k' _ h => oSet_disjoint fun e => h e.2.2

/-- A copy into columns of the output that carries the index array's own elements leaves them at those. -/
theorem copied (r : Rect S2x4294967) (hr : ∀ a, r.stride a = 1) (g f : Buf (Elt F) (oLoc d)) (p : (Rect.whole r.shape).shape.Idx → Elt F .i32)
    (hp : ∀ y : r.shape.Idx, p y = f (r.emb y)) :
    (((oV).slice r hr).view.loc (V d (cV L) (jV L)) ↦[((oV).slice r hr).view.set]{fullShare}
        ((oV).slice r hr).view.writes (Elt F) g [⟨Rect.whole r.shape, p⟩] : sProp 𝕄)
      = oLoc d ↦[((oV).slice r hr).view.set]{fullShare} f := by
  refine pointsTo_congr fun j hj => ?_
  obtain ⟨y, -, rfl⟩ := Finset.mem_map.mp hj
  rw [View.writes_singleton]
  have e : ((oV).slice r hr).view.emb y = (((oV).slice r hr).view.slice (Rect.whole r.shape)).emb y :=
    congrArg ((oV).slice r hr).view.emb (Rect.emb_whole_apply r.shape y).symm
  rw [e, View.write_emb_of_mem _ _ (Finset.mem_univ _), hp y, ← e]
  rfl

/-- The remainder's columns. -/
abbrev colsR : Rect S2x4294967 := Rect.unit (s := S2x4294967) ![0, 4284416] S2x10496.size inb_S2x4294967_S2x10496_0_4284416

/-- The same, of a round's columns and of the remainder's. -/
theorem copiedK {off : Fin 2 → ℕ} {inb} (g f : Buf (Elt F) (oLoc d)) (p : S2x16384.Idx → Elt F .i32)
    (hp : ∀ y : S2x16384.Idx, p y = f ((colsK off inb).emb y)) :
    ((oK off inb).view.loc (V d (cV L) (jV L)) ↦[(oK off inb).view.set]{fullShare}
        (oK off inb).view.writes (Elt F) g [⟨Rect.whole S2x16384, p⟩] : sProp 𝕄)
      = oLoc d ↦[(oK off inb).view.set]{fullShare} f := copied d L (colsK off inb) (fun _ => rfl) g f p hp
theorem copiedR (g f : Buf (Elt F) (oLoc d)) (p : S2x10496.Idx → Elt F .i32)
    (hp : ∀ y : S2x10496.Idx, p y = f (colsR.emb y)) :
    ((oR).view.loc (V d (cV L) (jV L)) ↦[(oR).view.set]{fullShare} (oR).view.writes (Elt F) g [⟨Rect.whole S2x10496, p⟩] : sProp 𝕄)
      = oLoc d ↦[(oR).view.set]{fullShare} f := copied d L colsR (fun _ => rfl) g f p hp

variable [FloatOps F]

set_option maxHeartbeats 4000000 in
/-- The task on vector subcore `(L 0, L 1)` of device `d`: given its share of the indices and its columns of the
    output, it ends with those columns at the index array's contents. -/
theorem tile_body (hF : (K (F := F)).Facts) (O : CellTallies nD τ sig (HIx 1)) (W : Waits sig (HIx 1)) (hO : ∀ g, O g none = 0) :
    iprop(levAts (K (F := F)).L (K (F := F)).lev ∗ emp ∗ taskPts m d (cL L) (sL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__idx_copy_sc L iV (Memref.isWhole_whole _) oV (Memref.isWhole_whole _) bV (Memref.isWhole_whole _)
            cc0_scoped0 cc0_scoped1 cc0_scoped2 cc0_scoped3 cc0_scoped4 cc0_scoped5 cc0_scoped6 cc0_scoped7 cc0_scoped8 cc0_scoped9)
          fun _ => iprop(taskPts m d (cL L) (sL L) (xo m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have e1 := cond1_true L
  have e2 := cond2_true L
  have e3 := cond3_true L
  have l0 : (L 0).val < 2 := (L 0).isLt
  have l1 : (L 1).val < 16 := (L 1).isLt
  have a1 : (oK (k0_off1 L) (k0_off1_inb L e1)).view.set = oSet (cL L) (sL L) 0 := by
    refine set_oK L 0 ?_ ?_ ?_ <;> (simp [k0_off1_eq, hi, lo]; try ((try split_ifs) <;> omega))
  have a2 : (oK (k0_off2 L) (k0_off2_inb L e2)).view.set = oSet (cL L) (sL L) 1 := by
    refine set_oK L 1 ?_ ?_ ?_ <;> (simp [k0_off2_eq, hi, lo]; try ((try split_ifs) <;> omega))
  have a3 : (oK (k0_off3 L) (k0_off3_inb L e3)).view.set = oSet (cL L) (sL L) 2 := by
    refine set_oK L 2 ?_ ?_ ?_ <;> (simp [k0_off3_eq, hi, lo]; try ((try split_ifs) <;> omega))
  have a4 (e4 : k0_cond4 L = 1#1) : (oK (k0_off4 L) (k0_off4_inb L e4)).view.set = oSet (cL L) (sL L) 3 := by
    have := (cond4_iff L).mp e4
    refine set_oK L 3 ?_ ?_ ?_ <;> (simp [k0_off4_eq, hi, lo]; try ((try split_ifs) <;> omega))
  have b4 (e4 : ¬k0_cond4 L = 1#1) : oSet (cL L) (sL L) 3 = ∅ := by
    have := (not_congr (cond4_iff L)).mp e4
    ext j; rw [mem_oSet]; simp [hi, lo]; split_ifs <;> omega
  have b5 (e5 : ¬2 * (sL L).val + (cL L).val = 31) : oSet (cL L) (sL L) 4 = ∅ := by
    ext j; rw [mem_oSet]; simp [hi, lo] at e5 ⊢; split_ifs <;> omega
  simp only [cc0__idx_copy_sc_eq_skeleton]; unfold cc0__idx_copy_sc_skel
  rw [(K (F := F)).scopedBufs_V hF d (cV L) (jV L), SparseCore.Cfg.scopedSems0_V (Val := Elt F) d (cV L) (jV L), ownSems0_V, ownBufs_V,
    bigSep_ten]
  unfold taskPts
  rw [tSet_pieces, tSet_pieces, bigSep_five, bigSep_five, ← a1, ← a2, ← a3]
  iintro ⟨#Hlv, -, ⟨Hi, Ho1, Ho2, Ho3, Ho4, Ho5⟩, ⟨⟨%fb, Hb⟩, Hbufs⟩, ⟨⟨S0, S1, S2, S3, S4, S5, S6, S7, S8, S9⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (iLoc d ↦{tq (cL L) (sL L)} m (iLoc d) : sProp 𝕄)
    = (iV).view.loc (V d (cV L) (jV L)) ↦{tq (cL L) (sL L)} m (iLoc d) from rfl)) $$ Hi
  ihave Ho1' := (Entails.of_eq (show (oLoc d ↦[(oK (k0_off1 L) (k0_off1_inb L e1)).view.set]{fullShare} m (oLoc d) : sProp 𝕄)
    = (oK (k0_off1 L) (k0_off1_inb L e1)).view.loc (V d (cV L) (jV L)) ↦[(oK (k0_off1 L) (k0_off1_inb L e1)).view.set]{fullShare} m (oLoc d) from rfl)) $$ Ho1
  ihave Ho2' := (Entails.of_eq (show (oLoc d ↦[(oK (k0_off2 L) (k0_off2_inb L e2)).view.set]{fullShare} m (oLoc d) : sProp 𝕄)
    = (oK (k0_off2 L) (k0_off2_inb L e2)).view.loc (V d (cV L) (jV L)) ↦[(oK (k0_off2 L) (k0_off2_inb L e2)).view.set]{fullShare} m (oLoc d) from rfl)) $$ Ho2
  ihave Ho3' := (Entails.of_eq (show (oLoc d ↦[(oK (k0_off3 L) (k0_off3_inb L e3)).view.set]{fullShare} m (oLoc d) : sProp 𝕄)
    = (oK (k0_off3 L) (k0_off3_inb L e3)).view.loc (V d (cV L) (jV L)) ↦[(oK (k0_off3 L) (k0_off3_inb L e3)).view.set]{fullShare} m (oLoc d) from rfl)) $$ Ho3
  ihave Hb' := (Entails.of_eq (show ((V d (cV L) (jV L)).loc cc0_scratch0 ↦{fullShare} fb : sProp 𝕄)
    = (bV).view.loc (V d (cV L) (jV L)) ↦{fullShare} fb from rfl)) $$ Hb
  sl_exec
  ihave Ho1n := (Entails.of_eq (copiedK (F := F) d L (off := k0_off1 L) (inb := k0_off1_inb L e1) (m (oLoc d)) (xo m d) (tile_body.sl.dma0_1 m d L e1 fb) (fun y => by
    unfold tile_body.sl.dma0_1 tile_body.sl.dma0
    simp only [Memref.view_whole, View.write_whole_univ, View.read_whole]
    rfl))) $$ Ho1'
  ihave Ho2n := (Entails.of_eq (copiedK (F := F) d L (off := k0_off2 L) (inb := k0_off2_inb L e2) (m (oLoc d)) (xo m d) (tile_body.sl.dma0_3 m d L e1 e2 fb) (fun y => by
    unfold tile_body.sl.dma0_3 tile_body.sl.dma0_2
    simp only [Memref.view_whole, View.write_whole_univ, View.read_whole]
    rfl))) $$ Ho2'
  ihave Ho3n := (Entails.of_eq (copiedK (F := F) d L (off := k0_off3 L) (inb := k0_off3_inb L e3) (m (oLoc d)) (xo m d) (tile_body.sl.dma0_5 m d L e1 e2 e3 fb) (fun y => by
    unfold tile_body.sl.dma0_5 tile_body.sl.dma0_4
    simp only [Memref.view_whole, View.write_whole_univ, View.read_whole]
    rfl))) $$ Ho3'
  by_cases e5 : 2 * (L 1).val + (L 0).val = 31
  case' pos =>
    have e4 : ¬k0_cond4 L = 1#1 := by rw [cond4_iff]; omega
    rw [dif_neg e4]
    sl_exec
    ihave Ho5' := (Entails.of_eq (show (oLoc d ↦[oSet (cL L) (sL L) 4]{fullShare} m (oLoc d) : sProp 𝕄)
      = (oR).view.loc (V d (cV L) (jV L)) ↦[(oR).view.set]{fullShare} m (oLoc d) by rw [set_oR L e5])) $$ Ho5
    rw [dif_pos (show tile_body.sl.v20 L = 1#1 from (cond5_iff L).mpr e5)]
    sl_exec
    sl_step
    ihave Ho5n := (Entails.of_eq (copiedR (F := F) d L
      (m (oLoc d)) (xo m d) (tile_body.sl.dma0_9 m d L e1 e2 e3 fb) (fun y => by
        unfold tile_body.sl.dma0_9 tile_body.sl.dma0_8
        exact congrFun (View.read_write_univ _ _) y))) $$ Ho5'
    ihave Ho4n := (Entails.of_eq (show (oLoc d ↦[oSet (cL L) (sL L) 3]{fullShare} m (oLoc d) : sProp 𝕄)
      = oLoc d ↦[oSet (cL L) (sL L) 3]{fullShare} xo m d from pointsTo_congr fun j hj => absurd (b4 e4 ▸ hj) (Finset.notMem_empty j))) $$ Ho4
    rw [← set_oR L e5]
  case' neg =>
    ihave Ho5n := (Entails.of_eq (show (oLoc d ↦[oSet (cL L) (sL L) 4]{fullShare} m (oLoc d) : sProp 𝕄)
      = oLoc d ↦[oSet (cL L) (sL L) 4]{fullShare} xo m d from pointsTo_congr fun j hj => absurd (b5 e5 ▸ hj) (Finset.notMem_empty j))) $$ Ho5
    by_cases e4 : k0_cond4 L = 1#1
    case' pos =>
      ihave Ho4' := (Entails.of_eq (show (oLoc d ↦[oSet (cL L) (sL L) 3]{fullShare} m (oLoc d) : sProp 𝕄)
        = (oK (k0_off4 L) (k0_off4_inb L e4)).view.loc (V d (cV L) (jV L)) ↦[(oK (k0_off4 L) (k0_off4_inb L e4)).view.set]{fullShare} m (oLoc d)
          by rw [a4 e4])) $$ Ho4
      rw [dif_pos e4]
      sl_exec
      rw [dif_neg (show ¬tile_body.sl.v20_1 L = 1#1 from fun h => e5 ((cond5_iff L).mp h))]
      sl_exec
      sl_step
      ihave Ho4n := (Entails.of_eq (copiedK (F := F) d L (off := k0_off4 L) (inb := k0_off4_inb L e4) (m (oLoc d)) (xo m d)
        (tile_body.sl.dma0_11 m d L e1 e2 e3 fb e4) (fun y => by
          unfold tile_body.sl.dma0_11 tile_body.sl.dma0_10
          simp only [Memref.view_whole, View.write_whole_univ, View.read_whole]
          rfl))) $$ Ho4'
      rw [← a4 e4]
    case' neg =>
      ihave Ho4n := (Entails.of_eq (show (oLoc d ↦[oSet (cL L) (sL L) 3]{fullShare} m (oLoc d) : sProp 𝕄)
        = oLoc d ↦[oSet (cL L) (sL L) 3]{fullShare} xo m d from pointsTo_congr fun j hj => absurd (b4 e4 ▸ hj) (Finset.notMem_empty j))) $$ Ho4
      rw [dif_neg e4]
      sl_exec
      rw [dif_neg (show ¬tile_body.sl.v20_2 L = 1#1 from fun h => e5 ((cond5_iff L).mp h))]
      sl_exec
      sl_step
  all_goals
    isplitl [Hi' Ho1n Ho2n Ho3n Ho4n Ho5n]
    · isplitl [Hi']; · iexact Hi'
      isplitl [Ho1n]; · iexact Ho1n
      isplitl [Ho2n]; · iexact Ho2n
      isplitl [Ho3n]; · iexact Ho3n
      isplitl [Ho4n]; · iexact Ho4n
      iexact Ho5n
    isplitl [Hb' Hbufs]
    · isplitl [Hb']
      · iexists _; iexact Hb'
      iexact Hbufs
    isplitr [HO]
    · isplitr [Hsems]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        iexact S9
      iexact Hsems
    iexists _
    isplitr
    rotate_left
    · iexact HO
    · ipureintro
      intro p hp
      repeat (rcases Finset.mem_insert.mp hp with rfl | hp; · exact Or.inr rfl)
      exact Or.inl hp

/-- The task's processor in the grid. -/
abbrev coordsV (c : Fin (grid0.bound 0)) (s : Fin (grid0.bound 1)) : grid0.Coords := fun | 0 => c | 1 => s | ⟨_ + 2, h⟩ => absurd h (Nat.not_lt.2 (Nat.le_add_left _ _))

/-- What a vector subcore runs is the task's body on the whole arrays. -/
theorem defs₀_vector (c : Fin τ.nSC) (s : Fin τ.nSub) : defs₀ (F := F) (.scVector c s) 0 ()
    = SparseCore.onTile hcore0 hsub0 (fun c s => cc0__idx_copy_sc (coordsV c s) iV (Memref.isWhole_whole _) oV (Memref.isWhole_whole _) bV (Memref.isWhole_whole _)
        cc0_scoped0 cc0_scoped1 cc0_scoped2 cc0_scoped3 cc0_scoped4 cc0_scoped5 cc0_scoped6 cc0_scoped7 cc0_scoped8 cc0_scoped9) ⟨⟩ c s := rfl

set_option maxRecDepth 16384 in
/-- Every task of the call meets its obligation. -/
theorem tileObl (hF : (K (F := F)).Facts) : (K (F := F)).TileObl (D (F := F)) 𝒱 (P m) v₀ 0 := by
  intro d c s O W hO _ _
  simp only [show (P m).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hcs, and_self, ↓reduceDIte]
  refine (tile_body m d (coordsV ⟨_, hcs.1⟩ ⟨_, hcs.2⟩) hF O W hO).trans (wp_mono frame _ _ fun _ => ?_)
  iintro ⟨HA, HB, HC, %W', %hW', HO⟩
  ihave HA' := (show taskPts m d (cL (coordsV ⟨_, hcs.1⟩ ⟨_, hcs.2⟩)) (sL (coordsV ⟨_, hcs.1⟩ ⟨_, hcs.2⟩)) (xo m d) ⊢ (P m).td 0 d c s from Entails.refl _) $$ HA
  isplitl [HA']; · iexact HA'
  isplitl [HB]; · iexact HB
  isplitl [HC]; · iexact HC
  iexists W'; isplitr
  · ipureintro; exact fun p hp => (hW' p hp).imp_right Or.inl
  iexact HO

end Tile

end Cert.Proof.Drop
-- ==== Proof.Region.lean ====
/-
  The TensorCore part of the kernel: a pipeline over 33 blocks that copies the first 2433024 columns of the index
  array and drops values.
-/
module

public import proofs.«01_k».proof.Proof.Tiles
public import proofs.«01_k».proof.Proof.Gen.KernelIdeal.Launch
public import proofs.«01_k».proof.Proof.Gen.KernelIdeal.Points
public import Idealize.ShloMosaic.Lib.Pipeline.Regions
public import Idealize.ShloMosaic.Lib.Pipeline.ValueKit
public import Idealize.ShloMosaic.Lib.WritesUnit

@[expose] public section

noncomputable section

namespace Cert.Proof.Drop

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

/-! ## The body at one block -/

/-- The first four of the generator's five groups of rounds, at block `i`: the two words each element has then. -/
def wordA (i : grid1.Coords) : IVec S1024x128 32 :=
  k1_pay45 (k1_pay33 (k1_pay20 (k1_pay9 i) (k1_pay10 i) 12345#32) (k1_pay21 (k1_pay9 i) (k1_pay10 i) 12345#32) (k1_pay22 (k1_pay9 i) (k1_pay10 i) 12345#32))
    (k1_pay34 (k1_pay20 (k1_pay9 i) (k1_pay10 i) 12345#32) (k1_pay21 (k1_pay9 i) (k1_pay10 i) 12345#32) (k1_pay22 (k1_pay9 i) (k1_pay10 i) 12345#32))
    (k1_pay35 (k1_pay20 (k1_pay9 i) (k1_pay10 i) 12345#32) (k1_pay21 (k1_pay9 i) (k1_pay10 i) 12345#32) (k1_pay22 (k1_pay9 i) (k1_pay10 i) 12345#32))
def wordB (i : grid1.Coords) : IVec S1024x128 32 :=
  k1_pay46 (k1_pay33 (k1_pay20 (k1_pay9 i) (k1_pay10 i) 12345#32) (k1_pay21 (k1_pay9 i) (k1_pay10 i) 12345#32) (k1_pay22 (k1_pay9 i) (k1_pay10 i) 12345#32))
    (k1_pay34 (k1_pay20 (k1_pay9 i) (k1_pay10 i) 12345#32) (k1_pay21 (k1_pay9 i) (k1_pay10 i) 12345#32) (k1_pay22 (k1_pay9 i) (k1_pay10 i) 12345#32))
    (k1_pay35 (k1_pay20 (k1_pay9 i) (k1_pay10 i) 12345#32) (k1_pay21 (k1_pay9 i) (k1_pay10 i) 12345#32) (k1_pay22 (k1_pay9 i) (k1_pay10 i) 12345#32))

/-- What the body writes to the block of values: at block `i`, the values `x` of the block with the dropped ones at
    zero and the others doubled. -/
def outv (i : grid1.Coords) (x : Vec F S131072 .f32) : Vec F S131072 .f32 :=
  k1_pay1 (wordA i) (wordB i) 466693091#32 x

/-- The 32 random bits of element `y` of block `i`. -/
def bits (i : grid1.Coords) (y : S131072.Idx) : BitVec 32 :=
  (wordA i (Shape.reshapeEquiv shapeCasts_S1024x128_S131072 y) + 466693091#32)
    ^^^ (wordB i (Shape.reshapeEquiv shapeCasts_S1024x128_S131072 y) + 0#32 + 5#32)

/-- One element of what the body writes: twice the value where the top bit of the random word is set, else zero. -/
theorem outv_apply (i : grid1.Coords) (x : Vec F S131072 .f32) (y : S131072.Idx) :
    outv i x y = Scalar.select (IntOp.cmpi .uge (bits i y) 2147483648#32)
      (FloatOps.mulf (x y) (Scalar.ofBits .f32 0x40000000#32)) (Scalar.ofBits .f32 0x00000000#32) := by
  have hx : shapeCast S131072 (shapeCast S1024x128 x shapeCasts_S131072_S1024x128) shapeCasts_S1024x128_S131072 y = x y := by
    rw [shapeCast_shapeCast]
  rw [← hx]
  rfl

theorem z2 : (![0, 0] : Fin 2 → ℕ) = fun _ => 0 := by decide
theorem z1 : (![0] : Fin 1 → ℕ) = fun _ => 0 := by decide

/-- Reading a whole memory through the rectangle that is all of it. -/
theorem readAt_all {sp : Space} {S : Shape} {e : EltTy} (M : Memref sig .tc sp S e) (f : M.view.ty.Contents (Elt F)) {off : Fin S.rank → ℕ}
    (h : off = fun _ => 0) (inb : ∀ a, off a + S.size a ≤ S.size a) :
    M.view.readAt (Elt F) (Rect.unit off S.size inb).toLoadRect f = M.view.read (Elt F) f := by
  subst h
  funext x
  show M.view.read (Elt F) f _ = _
  congr 1
  funext a
  apply Fin.ext
  simp [LoadRect.idx, Rect.unit]

/-- Reading back a store over the rectangle that is all of the memory. -/
theorem read_all {sp : Space} {S : Shape} {e : EltTy} (M : Memref sig .tc sp S e) (f : M.view.ty.Contents (Elt F)) {off : Fin S.rank → ℕ}
    (h : off = fun _ => 0) (inb : ∀ a, off a + S.size a ≤ S.size a) (w : S.Idx → Elt F e) :
    M.view.read (Elt F) (M.view.writes (Elt F) f [⟨Rect.unit off S.size inb, w⟩]) = w :=
  funext fun y => View.read_writes_cons_unit_of_mem M.view f inb w [] y y h fun a => (Nat.zero_add _).symm

/-- The body run on four staging buffers: it leaves the two it reads as they were, the index result holding the
    indices and the value result holding `outv`. -/
theorem body_run (c : Dev nD) (i : grid1.Coords) (M0 : Memref sig .tc .vmem S2x73728 .i32) (h0 : M0.IsWhole)
    (M1 : Memref sig .tc .vmem S131072 .f32) (h1 : M1.IsWhole) (A : Memref sig .tc .hbm S2x4294967 .i32) (hA : A.IsWhole)
    (M2 : Memref sig .tc .vmem S2x73728 .i32) (h2 : M2.IsWhole) (M3 : Memref sig .tc .vmem S131072 .f32) (h3 : M3.IsWhole)
    (X0 : Vec F S2x73728 .i32) (X1 : Vec F S131072 .f32) (d2 : Vec F S2x73728 .i32) (d3 : Vec F S131072 .f32)
    (E : Set ℕ) (Q : PUnit → sProp 𝕄) :
    iprop(owns (c : Thread nD τ) M0 fullShare X0 ∗ owns (c : Thread nD τ) M1 fullShare X1 ∗ owns (c : Thread nD τ) M2 fullShare d2
        ∗ owns (c : Thread nD τ) M3 fullShare d3
        ∗ (iprop(owns (c : Thread nD τ) M0 fullShare X0 ∗ owns (c : Thread nD τ) M1 fullShare X1 ∗ owns (c : Thread nD τ) M2 fullShare X0
            ∗ owns (c : Thread nD τ) M3 fullShare (outv i X1)) -∗ Q ⟨⟩))
      ⊢ wp frame (wpE (defs₀ (F := F)) Variants.none c none) E (cc1__dropout_body i M0 h0 M1 h1 A hA M2 h2 M3 h3) Q := by
  rw [cc1__dropout_body_eq_skeleton]
  unfold cc1__dropout_body_skel
  rw [k1_part1_eq_skeleton, k1_part2_eq_skeleton, k1_part3_eq_skeleton, k1_part4_eq_skeleton]
  unfold k1_part1_skel k1_part2_skel k1_part3_skel k1_part4_skel
  unfold owns
  iintro ⟨⟨%f0, %e0, H0⟩, ⟨%f1, %e1, H1⟩, ⟨%f2, %e2, H2⟩, ⟨%f3, %e3, H3⟩, Hk⟩
  sl_exec
  rw [readAt_all M0 f0 z2, readAt_all M1 f1 z1, e0, e1]
  sl_step
  iapply Hk
  isplitl [H0]
  · iexists f0; isplitr; · ipureintro; exact e0
    iexact H0
  isplitl [H1]
  · iexists f1; isplitr; · ipureintro; exact e1
    iexact H1
  isplitl [H2]
  · iexists _; isplitr; rotate_left; · iexact H2
    ipureintro; exact read_all M2 f2 z2 _ X0
  iexists _; isplitr; rotate_left; · iexact H3
  ipureintro; exact read_all M3 f3 z1 _ (outv i X1)

/-! ## The proof data -/

/-- The pipeline's rounds, inside the certificate's resource. -/
abbrev EP : Emb UP (MT nD τ sig (HIx 1) (Elt F) ℕ UU ℕ) := (Emb.inl : Emb UP (UP × Counters)).trans embR

/-- The pairs a wait of the TensorCore may have recorded once the SparseCore's call is over. -/
def recd (c : Dev nD) : Set (SemLoc sig × HIx 1) := {p | (K (F := F)).lev (SparseCore.T c, p.1) p.2 ≤ 8}

/-- Something to hold where nothing is said. -/
abbrev anyv {S : Shape} {e : EltTy} : S.Idx → Elt F e := fun _ => Classical.arbitrary _

variable (c : Dev nD) (a0 : Buf (Elt F) ((c : Thread nD τ).loc main_arg0)) (a1 : Buf (Elt F) ((c : Thread nD τ).loc main_arg1))
  (b0 : Buf (Elt F) ((c : Thread nD τ).loc main_v1_0)) (b1 : Buf (Elt F) ((c : Thread nD τ).loc main_v1_1))

/-- The block of indices and the block of values point `t` reads, the part outside the array at anything. -/
def iblk (t : Fin cfg1.N) : Vec F S2x73728 .i32 := win1_0.fill (grid1.coords t) anyv ((win1_0.blk t).view.read (Elt F) a0)
def xblk (t : Fin cfg1.N) : Vec F S131072 .f32 := win1_1.fill (grid1.coords t) anyv ((win1_1.blk t).view.read (Elt F) a1)

/-- The arrays at entry, what each staging buffer holds after the body at each point, nothing owed. -/
def dat : Dat τ (Elt F) (HIx 1) ℕ UU ℕ cfg1 c where
  A w := match w with
    | ⟨0, _⟩ => a0
    | ⟨1, _⟩ => a1
    | ⟨2, _⟩ => b0
    | ⟨3, _⟩ => b1
  after w t := match w with
    | ⟨0, _⟩ => iblk c a0 t
    | ⟨1, _⟩ => xblk c a1 t
    | ⟨2, _⟩ => iblk c a0 t
    | ⟨3, _⟩ => outv (grid1.coords t) (xblk c a1 t)
  Φ _ := BI.emp
  q _ := fullShare
  owed _ := 0
  recorded _ := recd (F := F) c

/-- What the staging buffers of the two inputs hold when the body runs. -/
theorem before_0 (t : Fin cfg1.N) (d : Vec F S2x73728 .i32) :
    (dat c a0 a1 b0 b1).before 0 t d = win1_0.fill (grid1.coords t) d ((win1_0.blk t).view.read (Elt F) a0) := by
  unfold Dat.before; rw [if_pos (fetch1_0 t)]; rfl
theorem before_1 (t : Fin cfg1.N) (d : Vec F S131072 .f32) :
    (dat c a0 a1 b0 b1).before 1 t d = win1_1.fill (grid1.coords t) d ((win1_1.blk t).view.read (Elt F) a1) := by
  unfold Dat.before; rw [if_pos (fetch1_1 t)]; rfl

/-- The body's result on the part of a block inside the array does not depend on what the staging buffer held
    outside it. -/
theorem outv_cut (t : Fin cfg1.N) (d : Vec F S131072 .f32) (g : (win1_1.xblock (grid1.coords t)).Idx → Elt F .f32) (d' : Vec F S131072 .f32) :
    win1_3.cut (grid1.coords t) (outv (grid1.coords t) (win1_1.fill (grid1.coords t) d g))
      = win1_3.cut (grid1.coords t) (outv (grid1.coords t) (win1_1.fill (grid1.coords t) d' g)) := by
  funext j
  show outv _ _ _ = outv _ _ _
  rw [outv_apply, outv_apply]
  have hd : ∀ d, win1_1.fill (grid1.coords t) d g (win1_3.xinj (grid1.coords t) j) = g j := fun d => win1_1.fill_xinj (grid1.coords t) d g j
  rw [hd, hd]

/-- The body runs at every point, from the blocks the fetches brought to what `dat` says it leaves. -/
theorem body_obligation : Pipeline.BodyObligationLoose (dat c a0 a1 b0 b1) (defs₀ (F := F)) Variants.none none Set.univ := fun t => by
  rw [bigSep_W1, bigSep_W1]
  rw [show (dat c a0 a1 b0 b1).owesAt none t.succ = (dat c a0 a1 b0 b1).owesAt none t.castSucc from rfl,
    show (dat c a0 a1 b0 b1).Φ t.succ = BI.emp from rfl, show (dat c a0 a1 b0 b1).Φ t.castSucc = BI.emp from rfl]
  iintro ⟨-, Howes, ⟨%d0, H0⟩, ⟨%d1, H1⟩, ⟨%d2, H2⟩, ⟨%d3, H3⟩⟩
  rw [before_0, before_1]
  iapply (body_run c (grid1.coords t) (win1_0.stage (cfg1.slots t 0)) (hstage1_0 ((cfg1.slots t 0).cast nbuf1_0)) (win1_1.stage (cfg1.slots t 1))
    (hstage1_1 ((cfg1.slots t 1).cast nbuf1_1)) (Memref.whole main_v0) (Memref.isWhole_whole _) (win1_2.stage (cfg1.slots t 2))
    (hstage1_2 ((cfg1.slots t 2).cast nbuf1_2)) (win1_3.stage (cfg1.slots t 3)) (hstage1_3 ((cfg1.slots t 3).cast nbuf1_3)) _ _ _ _ Set.univ _)
  isplitl [H0]; · iexact H0
  isplitl [H1]; · iexact H1
  isplitl [H2]; · iexact H2
  isplitl [H3]; · iexact H3
  iintro ⟨H0, H1, H2, H3⟩
  isplitr; · iempintro
  isplitl [Howes]; · iexact Howes
  isplitl [H0]
  · iexists d0
    rw [show win1_0.fill (grid1.coords t) d0 ((win1_0.blk t).view.read (Elt F) a0)
      = win1_0.fill (grid1.coords t) d0 (win1_0.cut (grid1.coords t) (iblk c a0 t)) from by unfold iblk; rw [Pipeline.Window.cut_fill]]
    iexact H0
  isplitl [H1]
  · iexists d1
    rw [show win1_1.fill (grid1.coords t) d1 ((win1_1.blk t).view.read (Elt F) a1)
      = win1_1.fill (grid1.coords t) d1 (win1_1.cut (grid1.coords t) (xblk c a1 t)) from by unfold xblk; rw [Pipeline.Window.cut_fill]]
    iexact H1
  isplitl [H2]
  · iexists d0
    rw [show win1_0.fill (grid1.coords t) d0 ((win1_0.blk t).view.read (Elt F) a0)
      = win1_2.fill (grid1.coords t) d0 (win1_2.cut (grid1.coords t) (iblk c a0 t)) from by
        unfold iblk
        exact congrArg (win1_0.fill (grid1.coords t) d0) (Pipeline.Window.cut_fill win1_0 (grid1.coords t) _ _).symm]
    iexact H2
  · iexists (outv (grid1.coords t) (win1_1.fill (grid1.coords t) d1 ((win1_1.blk t).view.read (Elt F) a1)))
    iapply (Entails.of_eq (congrArg (owns (c : Thread nD τ) (win1_3.stage (cfg1.slots t 3)) fullShare)
      (Pipeline.Window.fill_congr_cut win1_3 (grid1.coords t) (outv_cut t d1 ((win1_1.blk t).view.read (Elt F) a1) anyv)).symm))
    iexact H3

end Cert.Proof.Drop

end
-- ==== Proof.Arrays.lean ====
/-
  What the TensorCore part leaves in its two result arrays.
-/
module

public import proofs.«01_k».proof.Proof.Region
public import Idealize.ShloMosaic.Lib.Pipeline.ValueKit
public import Idealize.ShloMosaic.Lib.Pipeline.Covers

@[expose] public section

noncomputable section

namespace Cert.Proof.Drop

open Cert.KernelIdeal Cert.KernelIdeal.Gen

open Idealize.ShloMosaic Idealize.ShloMosaic.TcCoe
open Idealize.ShloMosaic.Tactic
open Idealize.ShloMosaic.SparseCore.Cfg (HIx)
open Idealize.ShloMosaic.Pipeline (Dat)

variable {F : FTy → Type} [FloatOps F]
variable (c : Dev nD) (a0 : Buf (Elt F) ((c : Thread nD τ).loc main_arg0)) (a1 : Buf (Elt F) ((c : Thread nD τ).loc main_arg1))
  (b0 : Buf (Elt F) ((c : Thread nD τ).loc main_v1_0)) (b1 : Buf (Elt F) ((c : Thread nD τ).loc main_v1_1))

/-- Element `j` of the values is element `j % 131072` of block `j / 131072`. -/
def locOf (j : S4294967.Idx) : S131072.Idx := fun | ⟨0, _⟩ => ⟨(j 0).val % 131072, Nat.mod_lt _ (by decide)⟩
def blkOf (j : S4294967.Idx) : Fin 33 := ⟨(j 0).val / 131072, by have := (j 0).isLt; change (j 0).val < 4294967 at this; omega⟩

/-- The values after the region: each doubled where the random word of its place has its top bit set, else zero. -/
def dropped (x : Vec F S4294967 .f32) : Vec F S4294967 .f32 := fun j =>
  Scalar.select (IntOp.cmpi .uge (bits (grid1.coords (blkOf j)) (locOf j)) 2147483648#32)
    (FloatOps.mulf (x j) (Scalar.ofBits .f32 0x40000000#32)) (Scalar.ofBits .f32 0x00000000#32)

/-- Point `t`'s coordinate is `t`, and so is the index of the block each window is on along its tiled axis. -/
theorem coords_val (t : Fin cfg1.N) : (grid1.coords t 0).val = t.val := by
  revert t; decide

theorem toNat_coord (i : grid1.Coords) : (BitVec.ofNat 32 (i 0).val).toNat = (i 0).val := by
  have h : (i 0).val < 33 := (i 0).isLt
  rw [BitVec.toNat_ofNat]; exact Nat.mod_eq_of_lt (by omega)

theorem index_vals (t : Fin cfg1.N) : win1_3.index t 0 = t.val :=
  (toNat_coord (grid1.coords t)).trans (coords_val t)

/-- Where element `y` of point `t`'s block of values is in the array. -/
theorem emb_vals (t : Fin cfg1.N) (y : (win1_3.xblock (grid1.coords t)).Idx) : ((win1_3.blk t).view.emb y 0).val = t.val * 131072 + (y 0).val := by
  blk_simp
  rw [index_vals]

/-- The block of values point `t` reads is in the same place. -/
theorem xblk_at (t : Fin cfg1.N) (y : (win1_3.xblock (grid1.coords t)).Idx) :
    xblk c a1 t (win1_3.xinj (grid1.coords t) y) = a1 ((win1_3.blk t).view.emb y) := by
  unfold xblk; exact win1_1.fill_xinj (grid1.coords t) _ _ y

/-- The blocks of values written back are the whole array. -/
theorem covers_vals : (cfg1.win 3).Covers :=
  (cfg1.win 3).covers_of_indexMap_surj rfl (by decide) fun β => by
    have hβ : (β (0 : Fin 1)).val < 33 := lt_of_lt_of_eq (β (0 : Fin 1)).isLt (show (4294967 + 131072 - 1) / 131072 = 33 by decide)
    let i : grid1.Coords := fun | ⟨0, _⟩ => ⟨(β (0 : Fin 1)).val, hβ⟩
    exact ⟨i, fun | ⟨0, _⟩ => toNat_coord i⟩

/-- One element the body leaves, at its place in the array. -/
theorem at_vals (t : Fin cfg1.N) (y : ((cfg1.win 3).xblock (cfg1.grid.coords t)).Idx) :
    (dat c a0 a1 b0 b1).after 3 t ((cfg1.win 3).xinj (cfg1.grid.coords t) y) = dropped a1 (((cfg1.win 3).blk t).view.emb y) := by
  show outv (grid1.coords t) (xblk c a1 t) (win1_3.xinj (grid1.coords t) y) = dropped a1 ((win1_3.blk t).view.emb y)
  rw [outv_apply, xblk_at]
  have hv := emb_vals t y
  have hy : (y 0).val < 131072 := lt_of_lt_of_le (y 0).isLt (win1_3.xsize_le (grid1.coords t) 0)
  have hb : blkOf ((win1_3.blk t).view.emb y) = t := Fin.ext (by show _ / 131072 = t.val; rw [hv]; omega)
  have hl : locOf ((win1_3.blk t).view.emb y) = win1_3.xinj (grid1.coords t) y := funext fun | ⟨0, _⟩ => Fin.ext (by
    show _ % 131072 = (y 0).val; rw [hv]; omega)
  unfold dropped
  rw [hb, hl]

/-- The array of values after any run of the pipeline, read off the elements its points leave. -/
theorem arr_of_points (E : Dat τ (Elt F) (HIx 1) ℕ UU ℕ cfg1 c) (G : Buf (Elt F) ((c : Thread nD τ).loc main_v1_1))
    (h : ∀ (t : Fin cfg1.N) (y : ((cfg1.win 3).xblock (cfg1.grid.coords t)).Idx),
      E.after 3 t ((cfg1.win 3).xinj (cfg1.grid.coords t) y) = G (((cfg1.win 3).blk t).view.emb y)) : E.arrAt 3 cfg1.N = G :=
  E.arrAt_eq_of_covers 3 G covers_vals fun t _ y => h t y

/-- The array of values the region leaves. -/
theorem arr_vals : (dat c a0 a1 b0 b1).arrAt 3 cfg1.N = dropped a1 :=
  arr_of_points c (dat c a0 a1 b0 b1) (dropped a1) fun t y => at_vals c a0 a1 b0 b1 t y

/-- The blocks of indices written back are the first 33 of the array. -/
theorem covers_idx : (cfg1.win 2).CoversWhere fun β => β (1 : Fin 2) < 33 := by decide +kernel

/-- The array of indices after any run of the pipeline, read off the elements its points leave. -/
theorem idx_of_points (E : Dat τ (Elt F) (HIx 1) ℕ UU ℕ cfg1 c) (G : Buf (Elt F) ((c : Thread nD τ).loc main_v1_0))
    (h : ∀ (t : Fin cfg1.N) (y : ((cfg1.win 2).xblock (cfg1.grid.coords t)).Idx),
      E.after 2 t ((cfg1.win 2).xinj (cfg1.grid.coords t) y) = G (((cfg1.win 2).blk t).view.emb y)) :
    E.arrAt 2 cfg1.N = fun j => if (j (1 : Fin 2)).val / 73728 < 33 then G j else E.A 2 j :=
  E.arrAt_eq_of_coversWhere 2 G (fun β => β (1 : Fin 2) < 33) covers_idx (fun t _ y => h t y) (fun _ => Iff.rfl)

/-- The array of indices the region leaves: the argument's in the first 2433024 columns, as it was in the others. -/
theorem arr_idx : (dat c a0 a1 b0 b1).arrAt 2 cfg1.N = fun j => if (j (1 : Fin 2)).val / 73728 < 33 then a0 j else b0 j :=
  idx_of_points c (dat c a0 a1 b0 b1) a0 fun t y => win1_0.fill_xinj (grid1.coords t) _ _ y

end Cert.Proof.Drop

end
-- ==== Proof.Segment.lean ====
/-
  The TensorCore part as one step of the host's program: from the four arrays it is given to the same arrays with the two
  results written.
-/
module

public import proofs.«01_k».proof.Proof.Arrays

@[expose] public section

noncomputable section

namespace Cert.Proof.Drop

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

variable (a0 : (c : Dev nD) → Buf (Elt F) ((c : Thread nD τ).loc main_arg0)) (a1 : (c : Dev nD) → Buf (Elt F) ((c : Thread nD τ).loc main_arg1))
  (b0 : (c : Dev nD) → Buf (Elt F) ((c : Thread nD τ).loc main_v1_0)) (b1 : (c : Dev nD) → Buf (Elt F) ((c : Thread nD τ).loc main_v1_1))

/-- The pipeline has no table. -/
abbrev adm (p : Fin 1) : (pcfgs (F := F) p).Adm := (cfgs p).toPCfg_adm

/-- The one pipeline's proof data. -/
def pdats (p : Fin 1) (c : Dev nD) : Dat τ (Elt F) (HIx 1) ℕ UU ℕ (Pipeline.pin (pcfgs (F := F)) adm p) c := dat c (a0 c) (a1 c) (b0 c) (b1 c)

/-- What the TensorCore owes: nothing; its recorded waits those of the SparseCore's call. -/
abbrev idle (c : Dev nD) : sProp 𝕄 := iprop(∃ W, ⌜(K (F := F)).WBelow (SparseCore.T c) W 8⌝ ∗ owes (c : Thread nD τ) (0 : CellTallies nD τ sig (HIx 1)) W)

/-- The indices the region leaves. -/
abbrev fronted (x : Vec F S2x4294967 .i32) (y : Vec F S2x4294967 .i32) : Vec F S2x4294967 .i32 :=
  fun j => if (j (1 : Fin 2)).val / 73728 < 33 then x j else y j

/-- The four arrays. -/
abbrev four (c : Dev nD) (x0 : Buf (Elt F) ((c : Thread nD τ).loc main_arg0)) (x1 : Buf (Elt F) ((c : Thread nD τ).loc main_arg1))
    (x2 : Buf (Elt F) ((c : Thread nD τ).loc main_v1_0)) (x3 : Buf (Elt F) ((c : Thread nD τ).loc main_v1_1)) : sProp 𝕄 :=
  iprop(((c : Thread nD τ).loc main_arg0 ↦{fullShare} x0) ∗ ((c : Thread nD τ).loc main_arg1 ↦{fullShare} x1)
    ∗ ((c : Thread nD τ).loc main_v1_0 ↦{fullShare} x2) ∗ ((c : Thread nD τ).loc main_v1_1 ↦{fullShare} x3))

/-- The windows' arrays at contents given window by window are the four arrays. -/
theorem arrays_four (c : Dev nD) (G : (w : Fin 4) → Buf (Elt F) ((cfg1.win w).arr.view.loc (c : Thread nD τ))) :
    ((pdats a0 a1 b0 b1 0 c).arrays G : sProp 𝕄) = four c (G 0) (G 1) (G 2) (G 3) := by
  unfold Pipeline.Dat.arrays
  rw [bigSep_W1]
  simp only [(arr_whole1 0).set_eq_univ, (arr_whole1 1).set_eq_univ, (arr_whole1 2).set_eq_univ, (arr_whole1 3).set_eq_univ]
  have hs : ∀ w, (pdats a0 a1 b0 b1 0 c).share w = fullShare := (pdats a0 a1 b0 b1 0 c).share_full fun _ => rfl
  rw [hs, hs, hs, hs]

set_option backward.isDefEq.respectTransparency.types false in
/-- The region, from the four arrays at their entry contents to the same with the results written. -/
def seg : Pipeline.RegionSeg (pcfgs (F := F)) adm (pdats a0 a1 b0 b1) (none : HIx 1) defs₀ Variants.none (K (F := F)).L (K (F := F)).lev 0 where
  win := (launch1).win.to₀
  block_pos := (launch1).block_pos
  stage_whole := (launch1).stage_whole
  K := PEmpty
  osem k := k.elim
  ho := Pipeline.OwnSemFacts.none _
  hbody c := body_obligation c (a0 c) (a1 c) (b0 c) (b1 c)
  hwaits := Pipeline.hwaits_of_owed_zero _ _ _ _ (K (F := F)).L (K (F := F)).lev 0 fun _ _ => rfl
  pre c := iprop(four c (a0 c) (a1 c) (b0 c) (b1 c) ∗ idle c)
  post c := iprop(four c (a0 c) (a1 c) (fronted (a0 c) (b0 c)) (dropped (a1 c)) ∗ idle c)
  X _ := BI.emp
  Y _ := BI.emp
  Z _ := BI.emp
  hentry c := by
    rw [Pipeline.ownSems0_none, arrays_four]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats a0 a1 b0 b1 0 c).Φ 0 = BI.emp from rfl]
    iintro -; iempintro
  hout c := by
    rw [Pipeline.ownSems0_none, scopedRest1_eq]
    iintro -
    isplitr; · iempintro
    isplitr <;> iempintro
  hexit c := by
    rw [arrays_four]
    iintro ⟨Ha, HO, -, -⟩
    imodintro
    isplitl [Ha]
    · rw [show (pdats a0 a1 b0 b1 0 c).arrAt 0 (Pipeline.pin (pcfgs (F := F)) adm 0).N = a0 c from (pdats a0 a1 b0 b1 0 c).arrAt_in 0 rfl _,
        show (pdats a0 a1 b0 b1 0 c).arrAt 1 (Pipeline.pin (pcfgs (F := F)) adm 0).N = a1 c from (pdats a0 a1 b0 b1 0 c).arrAt_in 1 rfl _,
        show (pdats a0 a1 b0 b1 0 c).arrAt 2 (Pipeline.pin (pcfgs (F := F)) adm 0).N = fronted (a0 c) (b0 c) from arr_idx c _ _ _ _,
        show (pdats a0 a1 b0 b1 0 c).arrAt 3 (Pipeline.pin (pcfgs (F := F)) adm 0).N = dropped (a1 c) from arr_vals c _ _ _ _]
      iexact Ha
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le 8
    iexact HO

instance EP_landsIn : (EP (F := F)).LandsIn (upEmb : UEmb _ 𝕄) := by unfold EP; infer_instance

/-- The region's call in the host's program: from the TensorCore between kernels, the four arrays, the pipeline's part of
    the launch resource, to the same with the results written. -/
theorem region_step (d : Dev nD) (Q : PUnit → sProp 𝕄) :
    iprop((iprop(boundary (SparseCore.T d) ∗ four d (a0 d) (a1 d) (fronted (a0 d) (b0 d)) (dropped (a1 d)) ∗ idle d) -∗ Q ⟨⟩)
        ∗ boundary (SparseCore.T d) ∗ (four d (a0 d) (a1 d) (b0 d) (b1 d) ∗ idle d) ∗ levAts (K (F := F)).L (K (F := F)).lev
        ∗ Pipeline.cellsGhost cfgs EP 0 d ∗ Pipeline.toksInit cfgs EP 0 d)
      ⊢ wp frame (wpE ((K (F := F)).defs (D (F := F))) 𝒱 (SparseCore.T d) none) Set.univ
          (Prog.lift (.customCall (SparseCore.inner (Pipeline.entry 0)) ())) Q := by
  have h := Pipeline.RegionSeg.wp (pcfgs (F := F)) adm (pdats a0 a1 b0 b1) (none : HIx 1) cellOf_inj EP defs₀ Variants.none
    (K (F := F)).L (K (F := F)).lev (seg a0 a1 b0 b1) d none (fun _ h => nomatch h) (fun _ => .ret ⟨⟩) Q
  have h' := (K (F := F)).wp_liftProg (D (F := F)) 𝒱 (SparseCore.T d) Set.univ none
    (Prog.lift (.customCall (Pipeline.entry 0) ())) Q
  rw [wp_ret] at h
  iintro ⟨Hk, Hrest⟩
  iapply (h.trans h')
  isplitl [Hk]
  · iintro H
    imodintro
    ihave H' := (show (iprop(boundary (d.tc : Thread nD τ) ∗ (seg a0 a1 b0 b1).post d) : sProp 𝕄)
      ⊢ iprop(boundary (SparseCore.T d) ∗ four d (a0 d) (a1 d) (fronted (a0 d) (b0 d)) (dropped (a1 d)) ∗ idle d) from Entails.rfl) $$ H
    iapply Hk $$ H'
  iexact Hrest

end Cert.Proof.Drop

end
-- ==== Proof.Run.lean ====
/-
  The kernel's run from the launch to the end: the SparseCore call, the host's copy, the TensorCore call, the host's last
  columns; what the two results hold.
-/
module

public import proofs.«01_k».proof.Proof.Segment
public import Idealize.ShloMosaic.Lib.WordCmp

@[expose] public section

noncomputable section

namespace Cert.Proof.Drop

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's arrays -/

abbrev a0' : DevRef τ sig := (main_arg0 : Ref sig .tc)
abbrev v0' : DevRef τ sig := (main_v0 : Ref sig .tc)
abbrev o0' : DevRef τ sig := (main_v1_0 : Ref sig .tc)
abbrev v2' : DevRef τ sig := (main_v2 : Ref sig .tc)
abbrev c0' : DevRef τ sig := (main_c : Ref sig .tc)
abbrev c1' : DevRef τ sig := (main_c_0 : Ref sig .tc)
abbrev r0' : DevRef τ sig := (main_v3 : Ref sig .tc)

/-- The indices after the SparseCore call: its columns copied, the rest what the array held. -/
def mid (d : Dev nD) : Vec F S2x4294967 .i32 := fun j => if j ∈ scSet then xo m d j else m (oLoc d) j

abbrev opCopy : HloOp τ sig (Elt F) := StableHlo.unary main_v0 main_v1_0 id
abbrev opTail : HloOp τ sig (Elt F) := StableHlo.unary main_arg0 main_v2 ((extractStridedSlice S2x55 ![0, 4294912] · slices_S2x4294967_S2x55_0_4294912) : (⟨S2x4294967, .i32⟩ : BufTy).Contents (Elt F) → (⟨S2x55, .i32⟩ : BufTy).Contents (Elt F))
abbrev opRow : HloOp τ sig (Elt F) := StableHlo.nullary main_c (constantI S_ 32 0#32)
abbrev opCol : HloOp τ sig (Elt F) := StableHlo.nullary main_c_0 (constantI S_ 32 4294912#32)
abbrev opPut : HloOp τ sig (Elt F) := StableHlo.binaryIndexed main_v1_0 main_v2 ![main_c, main_c_0] ⟨S_, .i32⟩ main_v3 ((fun x u i => Host.dynamicUpdateSlice x u (fun k => (i k (Shape.Idx.first h_S_)).toInt) updateFits_S2x4294967_S2x55) : (⟨S2x4294967, .i32⟩ : BufTy).Contents (Elt F) → (⟨S2x55, .i32⟩ : BufTy).Contents (Elt F) → (Fin 2 → (⟨S_, .i32⟩ : BufTy).Contents (Elt F)) → (⟨S2x4294967, .i32⟩ : BufTy).Contents (Elt F))

/-- The arrays of the copy, and those of the last columns. -/
abbrev Sc : Finset (DevRef τ sig) := {v0', o0'}
abbrev St : Finset (DevRef τ sig) := {a0', o0', v2', c0', c1', r0'}

/-- What the arrays hold before the copy; and before the last columns are put, given what the TensorCore call left. -/
def Vc (d : Dev nD) : Valuation τ sig (Elt F) := Function.update (fun b => m (d, b)) v0' (mid m d)
def Vt (d : Dev nD) (y : Vec F S2x4294967 .i32) : Valuation τ sig (Elt F) := Function.update (fun b => m (d, b)) o0' y

theorem held_Sc (d : Dev nD) (W : Valuation τ sig (Elt F)) :
    (held (SparseCore.T d) Sc W : sProp 𝕄) = iprop((oLoc d ↦{fullShare} W v0') ∗ (SparseCore.T d).loc main_v1_0 ↦{fullShare} W o0') := by
  unfold held
  rw [SparseCore.bigSep_insert' (by decide), bigSep_singleton]

theorem held_St (d : Dev nD) (W : Valuation τ sig (Elt F)) :
    (held (SparseCore.T d) St W : sProp 𝕄)
      = iprop((iLoc d ↦{fullShare} W a0') ∗ ((SparseCore.T d).loc main_v1_0 ↦{fullShare} W o0') ∗ ((SparseCore.T d).loc main_v2 ↦{fullShare} W v2')
        ∗ ((SparseCore.T d).loc main_c ↦{fullShare} W c0') ∗ ((SparseCore.T d).loc main_c_0 ↦{fullShare} W c1')
        ∗ (SparseCore.T d).loc main_v3 ↦{fullShare} W r0') := by
  unfold held
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((iLoc d ↦{fullShare} W main_arg0) ∗ ((SparseCore.T d).loc main_arg1 ↦{fullShare} W main_arg1) ∗ (oLoc d ↦{fullShare} W main_v0)
        ∗ ((SparseCore.T d).loc main_v1_0 ↦{fullShare} W main_v1_0) ∗ ((SparseCore.T d).loc main_v1_1 ↦{fullShare} W main_v1_1)
        ∗ ((SparseCore.T d).loc main_v2 ↦{fullShare} W main_v2) ∗ ((SparseCore.T d).loc main_c ↦{fullShare} W main_c)
        ∗ ((SparseCore.T d).loc main_c_0 ↦{fullShare} W main_c_0) ∗ (SparseCore.T d).loc main_v3 ↦{fullShare} W main_v3) := by
  unfold unscopedBufs
  rw [show (Finset.univ.filter fun b : Ref sig .tc => ¬ b.isScoped)
      = {main_arg0, main_arg1, main_v0, main_v1_0, main_v1_1, main_v2, main_c, main_c_0, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The copy leaves the array it reads and writes its contents. -/
theorem copy_result (d : Dev nD) :
    (opCopy (F := F)).result (Vc m d) v0' = mid m d ∧ (opCopy (F := F)).result (Vc m d) o0' = mid m d := by
  have h : Vc m d v0' = mid m d := Function.update_self _ _ _
  refine ⟨((opCopy (F := F)).result_of_not_mem _ (show v0' ∉ ({o0'} : Finset (DevRef τ sig)) by decide)).trans h, ?_⟩
  exact (StableHlo.unary_result _ _ _ _ _ _).trans (by rw [id_eq, h])

/-- The arrays after the last columns are put. -/
def Ve (d : Dev nD) (y : Vec F S2x4294967 .i32) : Valuation τ sig (Elt F) :=
  (opPut (F := F)).result ((opCol (F := F)).result ((opRow (F := F)).result ((opTail (F := F)).result (Vt m d y))))

theorem Ve_arg (d : Dev nD) (y : Vec F S2x4294967 .i32) : Ve m d y a0' = m (iLoc d) := by
  unfold Ve
  rw [(opPut (F := F)).result_of_not_mem _ (show a0' ∉ ({r0'} : Finset (DevRef τ sig)) by decide),
    (opCol (F := F)).result_of_not_mem _ (show a0' ∉ ({c1'} : Finset (DevRef τ sig)) by decide),
    (opRow (F := F)).result_of_not_mem _ (show a0' ∉ ({c0'} : Finset (DevRef τ sig)) by decide),
    (opTail (F := F)).result_of_not_mem _ (show a0' ∉ ({v2'} : Finset (DevRef τ sig)) by decide)]
  exact Function.update_of_ne (show a0' ≠ o0' by decide) _ _

/-- The last columns lie at column 4294912. -/
theorem fits_tail : S2x4294967.Slices ![0, 4294912] S2x55 := slices_S2x4294967_S2x55_0_4294912

theorem Ve_res (d : Dev nD) (y : Vec F S2x4294967 .i32) :
    Ve m d y r0' = updateSlice y (extractStridedSlice S2x55 ![0, 4294912] (m (iLoc d) : Vec F S2x4294967 .i32) fits_tail) ![0, 4294912] fits_tail := by
  unfold Ve
  have hy : Vt m d y o0' = y := Function.update_self _ _ _
  have hx : Vt m d y a0' = m (iLoc d) := Function.update_of_ne (show a0' ≠ o0' by decide) _ _
  refine (StableHlo.binaryIndexed_result _ _ _ _ _ _ _ _ _ _ _ _).trans ?_
  rw [(opCol (F := F)).result_of_not_mem _ (show o0' ∉ ({c1'} : Finset (DevRef τ sig)) by decide),
    (opRow (F := F)).result_of_not_mem _ (show o0' ∉ ({c0'} : Finset (DevRef τ sig)) by decide),
    (opTail (F := F)).result_of_not_mem _ (show o0' ∉ ({v2'} : Finset (DevRef τ sig)) by decide), hy,
    (opCol (F := F)).result_of_not_mem _ (show v2' ∉ ({c1'} : Finset (DevRef τ sig)) by decide),
    (opRow (F := F)).result_of_not_mem _ (show v2' ∉ ({c0'} : Finset (DevRef τ sig)) by decide),
    show (opTail (F := F)).result (Vt m d y) v2' = extractStridedSlice S2x55 ![0, 4294912] (m (iLoc d) : Vec F S2x4294967 .i32) fits_tail from
      (StableHlo.unary_result _ _ _ _ _ _).trans (by rw [hx])]
  refine WordCmp.dynamicUpdateSlice_eq_update _ _ _ _ _ fits_tail ?_
  intro a
  match a with
  | 0 =>
    show ((opCol (F := F)).result ((opRow (F := F)).result ((opTail (F := F)).result (Vt m d y))) c0' _).toInt = _
    rw [(opCol (F := F)).result_of_not_mem _ (show c0' ∉ ({c1'} : Finset (DevRef τ sig)) by decide),
      show (opRow (F := F)).result ((opTail (F := F)).result (Vt m d y)) c0' = constantI S_ 32 0#32 from StableHlo.nullary_result _ _ _ _]
    decide
  | 1 =>
    show ((opCol (F := F)).result ((opRow (F := F)).result ((opTail (F := F)).result (Vt m d y))) c1' _).toInt = _
    rw [show (opCol (F := F)).result ((opRow (F := F)).result ((opTail (F := F)).result (Vt m d y))) c1' = constantI S_ 32 4294912#32 from
      StableHlo.nullary_result _ _ _ _]
    decide

/-- The three parts of the columns make the whole array: the index result is the index argument. -/
theorem parts_whole (d : Dev nD) : Ve m d (fronted (m (iLoc d)) (mid m d)) r0' = m (iLoc d) := by
  rw [Ve_res]
  funext j
  have h0 : (j (0 : Fin 2)).val < 2 := (j (0 : Fin 2)).isLt
  have h1 : (j (1 : Fin 2)).val < 4294967 := (j (1 : Fin 2)).isLt
  unfold updateSlice
  split
  · unfold extractStridedSlice
    rename_i h
    refine congrArg (m (iLoc d)) (funext fun a => Fin.ext ?_)
    have := (h a).1
    show ![0, 4294912] a + ((j a).val - ![0, 4294912] a) = (j a).val
    omega
  · rename_i h
    have h2 : (j (1 : Fin 2)).val < 4294912 := by
      by_contra hn
      refine h fun a => ?_
      match a with
      | 0 => exact ⟨Nat.zero_le _, by show (j (0 : Fin 2)).val < 0 + 2; omega⟩
      | 1 => exact ⟨by show 4294912 ≤ (j (1 : Fin 2)).val; omega, by show (j (1 : Fin 2)).val < 4294912 + 55; omega⟩
    unfold fronted
    split
    · rfl
    · rename_i h3
      unfold mid
      rw [if_pos (mem_scSet.2 ⟨by omega, h2⟩)]

/-! ## @main on the TensorCore -/

theorem st0_eq (d : Dev nD) : (bigSep Finset.univ fun c : Fin ((K (F := F)).nCore 0) => (P m).st 0 d c)
    = iprop((iLoc d ↦{fullShare} m (iLoc d)) ∗ oLoc d ↦[scSet]{fullShare} m (oLoc d)) := cores_eq m d _
theorem dn0_eq (d : Dev nD) : (bigSep Finset.univ fun c : Fin ((K (F := F)).nCore 0) => (P m).dn 0 d c)
    = iprop((iLoc d ↦{fullShare} m (iLoc d)) ∗ oLoc d ↦[scSet]{fullShare} xo m d) := cores_eq m d _

/-- The array of the SparseCore call whole again: its columns copied, the rest as it was. -/
theorem out_join (d : Dev nD) :
    (iprop((oLoc d ↦[scSet]{fullShare} xo m d) ∗ (oLoc d ↦[Finset.univ \ scSet]{fullShare} m (oLoc d))) : sProp 𝕄) ⊢ oLoc d ↦{fullShare} mid m d := by
  rw [pointsTo_congr (f := xo m d) (g := mid m d) (fun j hj => (if_pos hj).symm),
    pointsTo_congr (f := m (oLoc d)) (g := mid m d) (fun j hj => (if_neg (Finset.mem_sdiff.1 hj).2).symm)]
  exact (pointsTo_split_subset (Finset.subset_univ scSet)).2

/-- What @main leaves the claims: the arguments at their launch contents, the results at theirs. -/
abbrev FIN (d : Dev nD) : sProp 𝕄 :=
  iprop((iLoc d ↦{fullShare} m (iLoc d)) ∗ ((SparseCore.T d).loc main_arg1 ↦{fullShare} m ((SparseCore.T d).loc main_arg1))
    ∗ ((SparseCore.T d).loc main_v3 ↦{fullShare} m (iLoc d))
    ∗ (SparseCore.T d).loc main_v1_1 ↦{fullShare} dropped (m ((SparseCore.T d).loc main_arg1)))

/-- What @main needs of the launch resource besides the handshakes: the pipeline's part. -/
abbrev G (d : Dev nD) : sProp 𝕄 := iprop(Pipeline.cellsGhost cfgs EP 0 d ∗ Pipeline.toksInit cfgs EP 0 d)

/-- The end of @main: the last columns put into the index result. -/
theorem tail_step (d : Dev nD) (y : Vec F S2x4294967 .i32) (hy : y = fronted (m (iLoc d)) (mid m d)) (Q : PUnit → sProp 𝕄) :
    iprop(boundary (SparseCore.T d) ∗ held (SparseCore.T d) St (Vt m d y)
      ∗ ((boundary (SparseCore.T d) ∗ (iLoc d ↦{fullShare} m (iLoc d)) ∗ ((SparseCore.T d).loc main_v3 ↦{fullShare} m (iLoc d))) -∗ Q ⟨⟩))
      ⊢ wp frame (wpE ((K (F := F)).defs (D (F := F))) 𝒱 (SparseCore.T d) none) Set.univ
          (do hlo rfl (opTail (F := F)) fun _ => .ret ⟨⟩
              hlo rfl (opRow (F := F)) fun _ => .ret ⟨⟩
              hlo rfl (opCol (F := F)) fun _ => .ret ⟨⟩
              hlo rfl (opPut (F := F)) fun _ => .ret ⟨⟩
              pure ⟨⟩) Q := by
  simp only [wp_bind, wp_pure]
  iintro ⟨Hb, Hh, Hk⟩
  iapply (wp_hlo_within 𝒱 (SparseCore.T d) none Set.univ (op := opTail) (S := St) (show ({a0', v2'} : Finset (DevRef τ sig)) ⊆ St by decide) (V := Vt m d y)) $$ [Hb Hh]
  · isplitl [Hb] <;> iassumption
  iintro ⟨Hb, Hh⟩
  rw [wp_ret]; imodintro
  iapply (wp_hlo_within 𝒱 (SparseCore.T d) none Set.univ (op := opRow) (S := St) (show ({c0'} : Finset (DevRef τ sig)) ⊆ St by decide)
    (V := (opTail (F := F)).result (Vt m d y))) $$ [Hb Hh]
  · isplitl [Hb] <;> iassumption
  iintro ⟨Hb, Hh⟩
  rw [wp_ret]; imodintro
  iapply (wp_hlo_within 𝒱 (SparseCore.T d) none Set.univ (op := opCol) (S := St) (show ({c1'} : Finset (DevRef τ sig)) ⊆ St by decide)
    (V := (opRow (F := F)).result ((opTail (F := F)).result (Vt m d y)))) $$ [Hb Hh]
  · isplitl [Hb] <;> iassumption
  iintro ⟨Hb, Hh⟩
  rw [wp_ret]; imodintro
  iapply (wp_hlo_within 𝒱 (SparseCore.T d) none Set.univ (op := opPut) (S := St)
    (show (insert o0' (insert v2' (insert r0' (Finset.univ.image fun k : Fin 2 => ((![main_c, main_c_0] k : Ref sig .tc) : DevRef τ sig)))) : Finset (DevRef τ sig)) ⊆ St by decide)
    (V := (opCol (F := F)).result ((opRow (F := F)).result ((opTail (F := F)).result (Vt m d y))))) $$ [Hb Hh]
  · isplitl [Hb] <;> iassumption
  iintro ⟨Hb, Hh⟩
  ihave Hh' := (show (held (SparseCore.T d) St ((opPut (F := F)).result ((opCol (F := F)).result ((opRow (F := F)).result ((opTail (F := F)).result (Vt m d y))))) : sProp 𝕄) ⊢ iprop((iLoc d ↦{fullShare} m (iLoc d)) ∗ ((SparseCore.T d).loc main_v3 ↦{fullShare} m (iLoc d))) by
    rw [show (opPut (F := F)).result ((opCol (F := F)).result ((opRow (F := F)).result ((opTail (F := F)).result (Vt m d y)))) = Ve m d y from rfl,
      held_St, Ve_arg, hy, parts_whole]
    iintro ⟨Ha, -, -, -, -, Hr⟩
    isplitl [Ha] <;> iassumption) $$ Hh
  icases Hh' with ⟨Ha, Hr⟩
  rw [wp_ret]; imodintro; imodintro
  iapply Hk
  isplitl [Hb]; · iexact Hb
  isplitl [Ha] <;> iassumption

/-- After the one call the TensorCore owes nothing: that part of its state may be taken out and put back. -/
theorem tcSt_idle (d : Dev nD) : ((K (F := F)).tcSt EH d 1 : sProp 𝕄) ⊢ iprop(idle d ∗ (idle d -∗ (K (F := F)).tcSt EH d 1)) := by
  unfold SparseCore.Cfg.tcSt
  rw [(K (F := F)).Otc_end d le_rfl]
  iintro ⟨HO, Hr⟩
  isplitl [HO]; · iexact HO
  iintro HO
  isplitl [HO]; · iexact HO
  iexact Hr

/-- @main on device `d`'s TensorCore: the SparseCore call from the indices and its output, the copy of that output, the
    TensorCore call from the four arrays, the last columns; the arguments and the two results kept. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd main
  rw [unscopedBufs_eq, wp_bind]
  iintro ⟨#Hctx, Hst, ⟨Hb, ⟨Ha0, Ha1, Hv0, Ho0, Ho1, Hv2, Hc0, Hc1, Hv3⟩, Hts, -⟩, HG⟩
  ihave Hs := (pointsTo_split_subset (ℓ := oLoc d) (q := fullShare) (f := m (oLoc d)) (Finset.subset_univ scSet)).1 $$ Hv0
  icases Hs with ⟨Hsc, Hrest⟩
  iapply ((K (F := F)).wp_run (D (F := F)) 𝒱 (EH := EH) (P := P m) κ d 0) $$ [Hst Ha0 Ha1 Hsc Hrest Ho0 Ho1 Hv2 Hc0 Hc1 Hv3 Hb Hts HG]
  isplitr; · iexact Hctx
  isplitl [Hst]; · iexact Hst
  isplitl [Ha0 Hsc]
  · rw [st0_eq]
    isplitl [Ha0] <;> iassumption
  iintro ⟨Hst, Hdn⟩
  ihave Hdn' := (Entails.of_eq (dn0_eq m d)) $$ Hdn
  icases Hdn' with ⟨Ha0, Hsc⟩
  ihave Hv0 := (out_join m d) $$ [Hsc Hrest]
  · isplitl [Hsc] <;> iassumption
  rw [wp_bind]
  iapply (wp_hlo_within 𝒱 (SparseCore.T d) none Set.univ (op := opCopy) (S := Sc) (show ({v0', o0'} : Finset (DevRef τ sig)) ⊆ Sc by decide) (V := Vc m d)) $$ [Hb Hv0 Ho0]
  · isplitl [Hb]; · iexact Hb
    rw [held_Sc, show Vc m d v0' = mid m d from Function.update_self _ _ _,
      show Vc m d o0' = m ((SparseCore.T d).loc main_v1_0) from Function.update_of_ne (show o0' ≠ v0' by decide) _ _]
    isplitl [Hv0] <;> iassumption
  rw [held_Sc, (copy_result m d).1, (copy_result m d).2]
  iintro ⟨Hb, -, Ho0⟩
  rw [wp_ret]; imodintro
  rw [wp_bind]
  ihave Hi := (show (K (F := F)).tcSt EH d ((0 : Fin 1).val + 1) ⊢ iprop(idle d ∗ (idle d -∗ (K (F := F)).tcSt EH d 1)) from tcSt_idle d) $$ Hst
  icases Hi with ⟨Hidle, Hback⟩
  ihave HL := (SparseCore.Cfg.ctx_levAts κ) $$ Hctx
  iapply (region_step (fun c => m ((SparseCore.T c).loc main_arg0)) (fun c => m ((SparseCore.T c).loc main_arg1)) (fun c => mid m c)
    (fun c => m ((SparseCore.T c).loc main_v1_1)) d)
  icases HG with ⟨Hg, Ht⟩
  isplitr [Hb Ha0 Ha1 Ho0 Ho1 Hidle HL Hg Ht]
  · iintro ⟨Hb, ⟨Ha0, Ha1, Ho0, Ho1⟩, Hidle⟩
    iapply (tail_step m d _ rfl)
    isplitl [Hb]; · iexact Hb
    isplitl [Ha0 Ho0 Hv2 Hc0 Hc1 Hv3]
    · rw [held_St, show Vt m d (fronted (m (iLoc d)) (mid m d)) o0' = fronted (m (iLoc d)) (mid m d) from Function.update_self _ _ _,
        show Vt m d (fronted (m (iLoc d)) (mid m d)) a0' = m (iLoc d) from Function.update_of_ne (show a0' ≠ o0' by decide) _ _,
        show Vt m d (fronted (m (iLoc d)) (mid m d)) v2' = m ((SparseCore.T d).loc main_v2) from Function.update_of_ne (show v2' ≠ o0' by decide) _ _,
        show Vt m d (fronted (m (iLoc d)) (mid m d)) c0' = m ((SparseCore.T d).loc main_c) from Function.update_of_ne (show c0' ≠ o0' by decide) _ _,
        show Vt m d (fronted (m (iLoc d)) (mid m d)) c1' = m ((SparseCore.T d).loc main_c_0) from Function.update_of_ne (show c1' ≠ o0' by decide) _ _,
        show Vt m d (fronted (m (iLoc d)) (mid m d)) r0' = m ((SparseCore.T d).loc main_v3) from Function.update_of_ne (show r0' ≠ o0' by decide) _ _]
      isplitl [Ha0]; · iexact Ha0
      isplitl [Ho0]; · iexact Ho0
      isplitl [Hv2]; · iexact Hv2
      isplitl [Hc0]; · iexact Hc0
      isplitl [Hc1] <;> iassumption
    iintro ⟨Hb, Ha0, Hv3⟩
    ihave Hst := Hback $$ Hidle
    isplitl [Hst]; · iexact Hst
    isplitr [Hb Hts]
    · isplitl [Ha0]; · iexact Ha0
      isplitl [Ha1]; · iexact Ha1
      isplitl [Hv3] <;> iassumption
    isplitl [Hb] <;> iassumption
  isplitl [Hb]; · iexact Hb
  isplitl [Ha0 Ha1 Ho0 Ho1 Hidle]
  · isplitr [Hidle]
    · isplitl [Ha0]; · iexact Ha0
      isplitl [Ha1]; · iexact Ha1
      isplitl [Ho0] <;> iassumption
    iexact Hidle
  isplitl [HL]; · iexact HL
  isplitl [Hg] <;> iassumption

/-! ## The launch resource -/

/-- The launch element: the handshakes' rounds and the pipeline's. -/
def u₀ : UU := (initOf (K (F := F)).hsCells (K (F := F)).hsToks,
  (initOf (Pipeline.cells (nD := nD) (τ := τ) cfgs cellOf_inj) (Pipeline.launchToks (nD := nD) (τ := τ) cfgs cellOf_inj), 1))

theorem bigSep_emp' {ι : Type} [DecidableEq ι] (s : Finset ι) : (bigSep s fun _ => iprop(emp) : sProp 𝕄) = iprop(emp) := bigSep_emp_const _

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, HR⟩
  ihave H := (own_pair_emb embR _ _) $$ HR
  icases H with ⟨HP, -⟩
  imod (Pipeline.fund_ghost cfgs EP cellOf_inj) $$ HP with ⟨Hg, Ht⟩
  imodintro
  isplitl [HH]; · iexact HH
  isplitl [Hg Ht]
  · rw [bigSep_sep']
    isplitl [Hg]
    · rw [show (bigSep Finset.univ fun d : Dev nD => (Pipeline.cellsGhost cfgs EP 0 d : sProp 𝕄))
          = bigSep Finset.univ fun d : Dev nD => bigSep Finset.univ fun p : Fin 1 => Pipeline.cellsGhost cfgs EP p d from
        bigSep_congr fun d _ => (bigSep_univ_of_subsingleton (0 : Fin 1) (Φ := fun p => Pipeline.cellsGhost cfgs EP p d)).symm]
      iexact Hg
    · rw [show (bigSep Finset.univ fun d : Dev nD => (Pipeline.toksInit cfgs EP 0 d : sProp 𝕄))
          = bigSep Finset.univ fun d : Dev nD => bigSep Finset.univ fun p : Fin 1 => Pipeline.toksInit cfgs EP p d from
        bigSep_congr fun d _ => (bigSep_univ_of_subsingleton (0 : Fin 1) (Φ := fun p => Pipeline.toksInit cfgs EP p d)).symm]
      iexact Ht
  rw [show (bigSep Finset.univ fun thr : Thread nD τ => bigSep Finset.univ fun q : Fin 1 => (P m).x q thr) = bigSep Finset.univ fun _ => iprop(emp) from
    bigSep_congr fun _ _ => bigSep_univ_of_subsingleton (0 : Fin 1), bigSep_emp']
  iempintro

/-! ## What the final state holds -/

/-- What the claims read of device `d`'s final state. -/
def fq (d : Dev nD) (s' : Phys nD τ sig (Elt F)) : Prop :=
  s'.mem.mem (iLoc d) = m (iLoc d)
  ∧ s'.mem.mem ((SparseCore.T d).loc main_arg1) = m ((SparseCore.T d).loc main_arg1)
  ∧ s'.mem.mem ((SparseCore.T d).loc main_v3) = m (iLoc d)
  ∧ s'.mem.mem ((SparseCore.T d).loc main_v1_1) = dropped (m ((SparseCore.T d).loc main_arg1))

/-- An array held whole is what the state holds there. -/
theorem reads (s' : Phys nD τ sig (Elt F)) (ℓ : Loc nD τ sig) (f : Buf (Elt F) ℓ) :
    (iprop((ℓ ↦{fullShare} f) ∗ SI s') : sProp 𝕄) ⊢ iprop(⌜s'.mem.mem ℓ = f⌝ ∗ SI s') := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr [HSI]
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Ha, Hb, Hc, He⟩, HSI⟩
  ihave H := (reads s' _ _) $$ [Ha HSI]
  · isplitl [Ha] <;> iassumption
  icases H with ⟨%h1, HSI⟩
  ihave H := (reads s' _ _) $$ [Hb HSI]
  · isplitl [Hb] <;> iassumption
  icases H with ⟨%h2, HSI⟩
  ihave H := (reads s' _ _) $$ [Hc HSI]
  · isplitl [Hc] <;> iassumption
  icases H with ⟨%h3, HSI⟩
  ihave H := (reads s' _ _) $$ [He HSI]
  · isplitl [He] <;> iassumption
  icases H with ⟨%h4, -⟩
  ipureintro
  exact ⟨h1, h2, h3, h4⟩

/-! ## The run -/

/-- Every device's arrays as claimed, every semaphore counter at zero. -/
def QC : PUnit × MemSt nD τ sig (Elt F) → Prop := fun r =>
  (∀ c : Dev nD, r.2.mem (iLoc c) = m (iLoc c)
    ∧ r.2.mem ((SparseCore.T c).loc main_arg1) = m ((SparseCore.T c).loc main_arg1)
    ∧ r.2.mem ((SparseCore.T c).loc main_v3) = m (iLoc c)
    ∧ r.2.mem ((SparseCore.T c).loc main_v1_1) = dropped (m ((SparseCore.T c).loc main_arg1))) ∧ r.2.sem = fun _ => 0

/-- For any float values, from any memory with zero counters: every weakly fair execution of the kernel terminates, nothing
    faulting; the arguments end unchanged, the index result is the index argument, the value result is `dropped` of the
    value argument, and every semaphore counter is back at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Drop

end
-- ==== Proof.Line.lean ====
/-
  A straight line of host operations each of which writes the next buffer of the device: what the buffers hold at its end
  satisfies every operation's equation at once.
-/
module

public import Idealize.ShloMosaic.Lib.StableHlo.RunHlo

@[expose] public section

namespace Cert.Proof.Line

open Idealize.ShloMosaic Idealize.ShloMosaic.StableHlo Idealize.SL.Sem

variable {nD : ℕ} {τ : Topo} {sig : RefSig} {Val : EltTy → Type} {Λ : Labels}

/-- The operation writes the one buffer numbered `n`, and what it writes depends on the buffers of smaller number. -/
structure Writes (n : ℕ) (op : HloOp τ sig Val) : Prop where
  /-- It writes a buffer with that number, a function of the buffers before. -/
  out : ∃ y : DevRef τ sig, op.writes = {y} ∧ y.idx.val = n
    ∧ ∀ F G : Valuation τ sig Val, (∀ b : DevRef τ sig, b.idx.val < n → F b = G b) → op.result F y = op.result G y
  /-- It touches buffers of the TensorCore only. -/
  sub : op.bufs ⊆ tcRefs τ sig
  /-- It leaves nothing undetermined. -/
  fresh : op.fresh = ∅

/-- The operations write the buffers `n`, `n + 1`, … in order, each from those before it. -/
inductive InOrder : ℕ → List (HloOp τ sig Val) → Prop
  | nil (n : ℕ) : InOrder n []
  | cons {n : ℕ} {op : HloOp τ sig Val} {ops : List (HloOp τ sig Val)} : Writes n op → InOrder (n + 1) ops → InOrder n (op :: ops)

/-- The number of a TensorCore's buffer. -/
abbrev num (τ : Topo) {sig : RefSig} (r : Ref sig .tc) : ℕ := (Proc.devRef (τ := τ) .tc r).idx.val

theorem writes_nullary {n : ℕ} (y : Ref sig .tc) (v : y.ty.Contents Val) (hy) (h : num τ y = n) :
    Writes n (nullary (τ := τ) y v hy) :=
  ⟨⟨_, rfl, h, fun F G _ => by rw [nullary_result, nullary_result]⟩, nullary_bufs_sub y v hy, rfl⟩

theorem writes_unary {n : ℕ} (x y : Ref sig .tc) (f : x.ty.Contents Val → y.ty.Contents Val) (hx hy) (h : num τ y = n)
    (h1 : num τ x < n) : Writes n (unary (τ := τ) x y f hx hy) :=
  ⟨⟨_, rfl, h, fun F G e => by rw [unary_result, unary_result, e _ h1]⟩, unary_bufs_sub x y f hx hy, rfl⟩

theorem writes_binary {n : ℕ} (a b y : Ref sig .tc) (f : a.ty.Contents Val → b.ty.Contents Val → y.ty.Contents Val) (ha hb hy)
    (h : num τ y = n) (h1 : num τ a < n) (h2 : num τ b < n) : Writes n (binary (τ := τ) a b y f ha hb hy) :=
  ⟨⟨_, rfl, h, fun F G e => by rw [binary_result, binary_result, e _ h1, e _ h2]⟩, binary_bufs_sub a b y f ha hb hy, rfl⟩

theorem writes_ternary {n : ℕ} (c a b y : Ref sig .tc)
    (f : c.ty.Contents Val → a.ty.Contents Val → b.ty.Contents Val → y.ty.Contents Val) (hc ha hb hy)
    (h : num τ y = n) (h0 : num τ c < n) (h1 : num τ a < n) (h2 : num τ b < n) :
    Writes n (ternary (τ := τ) c a b y f hc ha hb hy) :=
  ⟨⟨_, rfl, h, fun F G e => by rw [ternary_result, ternary_result, e _ h0, e _ h1, e _ h2]⟩,
    ternary_bufs_sub a b c y f hc ha hb hy, rfl⟩

theorem writes_reshape {n : ℕ} (x y : Ref sig .tc) (he hn hx hy) (h : num τ y = n) (h1 : num τ x < n) :
    Writes n (reshape (τ := τ) (Val := Val) x y he hn hx hy) :=
  ⟨⟨_, rfl, h, fun F G e => by rw [reshape_result, reshape_result, e _ h1]⟩, reshape_bufs_sub x y he hn hx hy, rfl⟩

/-- A buffer before the first one written keeps its contents. -/
theorem InOrder.after_lt {n : ℕ} {ops : List (HloOp τ sig Val)} (h : InOrder n ops) (V : Valuation τ sig Val)
    {b : DevRef τ sig} (hb : b.idx.val < n) : after ops V b = V b := by
  induction h generalizing V with
  | nil => rfl
  | @cons n op ops hop _ ih =>
    obtain ⟨y, hw, hy, -⟩ := hop.out
    rw [after_cons, ih _ (Nat.lt_succ_of_lt hb), op.result_of_not_mem]
    rw [hw, Finset.mem_singleton]
    rintro rfl
    omega

/-- At the end, running any one of the operations again changes nothing. -/
theorem InOrder.fixed {n : ℕ} {ops : List (HloOp τ sig Val)} (h : InOrder n ops) (V : Valuation τ sig Val) :
    ∀ op ∈ ops, op.result (after ops V) = after ops V := by
  induction h generalizing V with
  | nil => exact fun _ h => nomatch h
  | @cons n op ops hop hops ih =>
    intro o ho
    rw [after_cons]
    rcases List.mem_cons.mp ho with rfl | ho
    · obtain ⟨y, hw, hy, hf⟩ := hop.out
      have lt : ∀ b : DevRef τ sig, b.idx.val < n → after ops (o.result V) b = V b := fun b hb => by
        rw [hops.after_lt _ (Nat.lt_succ_of_lt hb), o.result_of_not_mem]
        rw [hw, Finset.mem_singleton]
        rintro rfl
        omega
      funext b
      by_cases hb : b = y
      · subst hb
        rw [hf _ V lt, hops.after_lt _ (by omega)]
      · rw [o.result_of_not_mem]
        rwa [hw, Finset.mem_singleton]
    · exact ih _ o ho

theorem InOrder.sub {n : ℕ} {ops : List (HloOp τ sig Val)} (h : InOrder n ops) : ∀ op ∈ ops, op.bufs ⊆ tcRefs τ sig ∧ op.fresh = ∅ := by
  induction h with
  | nil => exact fun _ h => nomatch h
  | cons hop _ ih => exact fun o ho => (List.mem_cons.mp ho).elim (fun e => e ▸ ⟨hop.sub, hop.fresh⟩) (ih o)

/-! ## Reading the equations -/

/-- What a value's buffer holds. -/
def get (V : Valuation τ sig Val) {T : BufTy} (t : TRef sig T) : T.Contents Val := t.ofBuf (V (Proc.devRef .tc t.ref))

/-- Every one of the operations, run again, changes nothing. -/
def Fixed (V : Valuation τ sig Val) (ops : List (HloOp τ sig Val)) : Prop := ∀ op ∈ ops, op.result V = V

variable {V : Valuation τ sig Val} {ops : List (HloOp τ sig Val)} {T Ta Tb Tc : BufTy}

theorem Fixed.left {k : List (HloOp τ sig Val)} (h : Fixed V (ops ++ k)) : Fixed V ops := fun o ho => h o (List.mem_append_left _ ho)
theorem Fixed.right {k : List (HloOp τ sig Val)} (h : Fixed V (ops ++ k)) : Fixed V k := fun o ho => h o (List.mem_append_right _ ho)

theorem get_nullary {y : TRef sig T} {v : T.Contents Val} (h : (TRef.nullary (τ := τ) y v).result V = V) : get V y = v := by
  unfold get
  rw [← h, nullary_result, TRef.ofBuf_toBuf]

theorem get_unary {x : TRef sig Ta} {y : TRef sig T} {f : Ta.Contents Val → T.Contents Val}
    (h : (TRef.unary (τ := τ) x y f).result V = V) : get V y = f (get V x) := by
  conv_lhs => unfold get; rw [← h, unary_result, TRef.ofBuf_toBuf]
  rfl

theorem get_binary {a : TRef sig Ta} {b : TRef sig Tb} {y : TRef sig T} {f : Ta.Contents Val → Tb.Contents Val → T.Contents Val}
    (h : (TRef.binary (τ := τ) a b y f).result V = V) : get V y = f (get V a) (get V b) := by
  conv_lhs => unfold get; rw [← h, binary_result, TRef.ofBuf_toBuf]
  rfl

theorem get_ternary {c : TRef sig Tc} {a : TRef sig Ta} {b : TRef sig Tb} {y : TRef sig T}
    {f : Tc.Contents Val → Ta.Contents Val → Tb.Contents Val → T.Contents Val}
    (h : (TRef.ternary (τ := τ) c a b y f).result V = V) : get V y = f (get V c) (get V a) (get V b) := by
  conv_lhs => unfold get; rw [← h, ternary_result, TRef.ofBuf_toBuf]
  rfl

theorem get_reshape {x : TRef sig Ta} {y : TRef sig T} {he : Ta.elt = T.elt} {hn : Ta.shape.ShapeCasts T.shape}
    (h : (TRef.reshape (τ := τ) (Val := Val) x y he hn).result V = V) :
    get V y = fun i => he ▸ shapeCast T.shape (get V x) hn i := by
  conv_lhs => unfold get; rw [← h, reshape_result]
  obtain ⟨x, rfl, _, _⟩ := x
  obtain ⟨y, rfl, _, _⟩ := y
  rfl

end Cert.Proof.Line
-- ==== Proof.Ref.lean ====
/-
  The reference's run: its operations in order, and that they end with the two arguments unchanged and every operation's
  equation true of what the buffers then hold.
-/
module

public import proofs.«01_k».proof.Proof.Line
public import proofs.«01_k».proof.Proof.Gen.ReferenceIdeal
public import Idealize.ShloMosaic.Lib.Quiescent

@[expose] public section

noncomputable section

namespace Cert.Proof.Ref

open Cert.ReferenceIdeal Cert.ReferenceIdeal.Gen Cert.Proof.Line
open Idealize.ShloMosaic Idealize.ShloMosaic.StableHlo Idealize.SL.Sem

variable {F : FTy → Type} [FloatOps F]

/-- An array of words, and one word. -/
abbrev TW : Type := TRef sig ⟨S4294967, .i32⟩
abbrev TK : Type := TRef sig ⟨S_, .i32⟩

/-! ## The generator's operations -/

/-- The buffers of one round: the sum, the rotation's two amounts with the shifts by them, their union, and the exclusive
    or with the sum; `r` and `l` are the amounts. -/
structure Round where
  r : BitVec 32
  l : BitVec 32
  sum : TW
  cr : TK
  br : TW
  hi : TW
  cl : TK
  bl : TW
  lo : TW
  rot : TW
  out : TW

/-- The operations of one round on the two words `x`, `y`. -/
def Round.ops (R : Round) (x y : TW) : List (HloOp τ sig (Elt F)) :=
  [ TRef.binary x y R.sum addi,
    TRef.nullary R.cr (constantI S_ 32 R.r),
    TRef.unary R.cr R.br (broadcastInDim S4294967 ![] bcast_S_S4294967),
    TRef.binary y R.br R.hi Host.shli,
    TRef.nullary R.cl (constantI S_ 32 R.l),
    TRef.unary R.cl R.bl (broadcastInDim S4294967 ![] bcast_S_S4294967),
    TRef.binary y R.bl R.lo Host.shrui,
    TRef.binary R.hi R.lo R.rot ori,
    TRef.binary R.sum R.rot R.out xori ]

/-- The operations of several rounds. -/
def roundsOps : List Round → TW → TW → List (HloOp τ sig (Elt F))
  | [], _, _ => []
  | R :: l, x, y => R.ops x y ++ roundsOps l R.sum R.out

/-- The two words' buffers after several rounds. -/
def roundsOut : List Round → TW → TW → TW × TW
  | [], x, y => (x, y)
  | R :: l, _, _ => roundsOut l R.sum R.out

/-- The buffers of a group: its rounds, then the addition of the key's words `ka`, `kb` and of the group's number `c`. -/
structure Group where
  rounds : List Round
  ka : TK
  kb : TK
  c : BitVec 32
  ba : TW
  oa : TW
  bb : TW
  sb : TW
  cc : TK
  bc : TW
  ob : TW

/-- The operations of one group. -/
def Group.ops (G : Group) (x y : TW) : List (HloOp τ sig (Elt F)) :=
  roundsOps G.rounds x y ++
  [ TRef.unary G.ka G.ba (broadcastInDim S4294967 ![] bcast_S_S4294967),
    TRef.binary (roundsOut G.rounds x y).1 G.ba G.oa addi,
    TRef.unary G.kb G.bb (broadcastInDim S4294967 ![] bcast_S_S4294967),
    TRef.binary (roundsOut G.rounds x y).2 G.bb G.sb addi,
    TRef.nullary G.cc (constantI S_ 32 G.c),
    TRef.unary G.cc G.bc (broadcastInDim S4294967 ![] bcast_S_S4294967),
    TRef.binary G.sb G.bc G.ob addi ]

/-- The operations of several groups. -/
def groupsOps : List Group → TW → TW → List (HloOp τ sig (Elt F))
  | [], _, _ => []
  | G :: l, x, y => G.ops x y ++ groupsOps l G.oa G.ob

/-- The generator's five groups of four rounds. -/
def groups (a0 a1 : TK) (φ : fn_threefry2x32.Bufs) : List Group :=
  [ ⟨[⟨13#32, 19#32, φ.v6, φ.c_0, φ.v7, φ.v8, φ.c_1, φ.v9, φ.v10, φ.v11, φ.v12⟩,
      ⟨15#32, 17#32, φ.v13, φ.c_2, φ.v14, φ.v15, φ.c_3, φ.v16, φ.v17, φ.v18, φ.v19⟩,
      ⟨26#32, 6#32, φ.v20, φ.c_4, φ.v21, φ.v22, φ.c_5, φ.v23, φ.v24, φ.v25, φ.v26⟩,
      ⟨6#32, 26#32, φ.v27, φ.c_6, φ.v28, φ.v29, φ.c_7, φ.v30, φ.v31, φ.v32, φ.v33⟩],
      a1, φ.v1, 1#32, φ.v34, φ.v35, φ.v36, φ.v37, φ.c_8, φ.v38, φ.v39⟩,
    ⟨[⟨17#32, 15#32, φ.v40, φ.c_9, φ.v41, φ.v42, φ.c_10, φ.v43, φ.v44, φ.v45, φ.v46⟩,
      ⟨29#32, 3#32, φ.v47, φ.c_11, φ.v48, φ.v49, φ.c_12, φ.v50, φ.v51, φ.v52, φ.v53⟩,
      ⟨16#32, 16#32, φ.v54, φ.c_13, φ.v55, φ.v56, φ.c_14, φ.v57, φ.v58, φ.v59, φ.v60⟩,
      ⟨24#32, 8#32, φ.v61, φ.c_15, φ.v62, φ.v63, φ.c_16, φ.v64, φ.v65, φ.v66, φ.v67⟩],
      φ.v1, a0, 2#32, φ.v68, φ.v69, φ.v70, φ.v71, φ.c_17, φ.v72, φ.v73⟩,
    ⟨[⟨13#32, 19#32, φ.v74, φ.c_18, φ.v75, φ.v76, φ.c_19, φ.v77, φ.v78, φ.v79, φ.v80⟩,
      ⟨15#32, 17#32, φ.v81, φ.c_20, φ.v82, φ.v83, φ.c_21, φ.v84, φ.v85, φ.v86, φ.v87⟩,
      ⟨26#32, 6#32, φ.v88, φ.c_22, φ.v89, φ.v90, φ.c_23, φ.v91, φ.v92, φ.v93, φ.v94⟩,
      ⟨6#32, 26#32, φ.v95, φ.c_24, φ.v96, φ.v97, φ.c_25, φ.v98, φ.v99, φ.v100, φ.v101⟩],
      a0, a1, 3#32, φ.v102, φ.v103, φ.v104, φ.v105, φ.c_26, φ.v106, φ.v107⟩,
    ⟨[⟨17#32, 15#32, φ.v108, φ.c_27, φ.v109, φ.v110, φ.c_28, φ.v111, φ.v112, φ.v113, φ.v114⟩,
      ⟨29#32, 3#32, φ.v115, φ.c_29, φ.v116, φ.v117, φ.c_30, φ.v118, φ.v119, φ.v120, φ.v121⟩,
      ⟨16#32, 16#32, φ.v122, φ.c_31, φ.v123, φ.v124, φ.c_32, φ.v125, φ.v126, φ.v127, φ.v128⟩,
      ⟨24#32, 8#32, φ.v129, φ.c_33, φ.v130, φ.v131, φ.c_34, φ.v132, φ.v133, φ.v134, φ.v135⟩],
      a1, φ.v1, 4#32, φ.v136, φ.v137, φ.v138, φ.v139, φ.c_35, φ.v140, φ.v141⟩,
    ⟨[⟨13#32, 19#32, φ.v142, φ.c_36, φ.v143, φ.v144, φ.c_37, φ.v145, φ.v146, φ.v147, φ.v148⟩,
      ⟨15#32, 17#32, φ.v149, φ.c_38, φ.v150, φ.v151, φ.c_39, φ.v152, φ.v153, φ.v154, φ.v155⟩,
      ⟨26#32, 6#32, φ.v156, φ.c_40, φ.v157, φ.v158, φ.c_41, φ.v159, φ.v160, φ.v161, φ.v162⟩,
      ⟨6#32, 26#32, φ.v163, φ.c_42, φ.v164, φ.v165, φ.c_43, φ.v166, φ.v167, φ.v168, φ.v169⟩],
      φ.v1, a0, 5#32, φ.v170, φ.v171, φ.v172, φ.v173, φ.c_44, φ.v174, φ.v175⟩ ]

/-- The third word of the key, and the key's first addition. -/
def keyOps (a0 a1 : TK) (a2 a3 : TW) (φ : fn_threefry2x32.Bufs) : List (HloOp τ sig (Elt F)) :=
  [ TRef.binary a0 a1 φ.v0 xori,
    TRef.nullary φ.c (constantI S_ 32 466688986#32),
    TRef.binary φ.v0 φ.c φ.v1 xori,
    TRef.unary a0 φ.v2 (broadcastInDim S4294967 ![] bcast_S_S4294967),
    TRef.binary a2 φ.v2 φ.v3 addi,
    TRef.unary a1 φ.v4 (broadcastInDim S4294967 ![] bcast_S_S4294967),
    TRef.binary a3 φ.v4 φ.v5 addi ]

/-- The generator's operations. -/
def threefryOps (a0 a1 : TK) (a2 a3 : TW) (φ : fn_threefry2x32.Bufs) : List (HloOp τ sig (Elt F)) :=
  keyOps a0 a1 a2 a3 φ ++ groupsOps (groups a0 a1 φ) φ.v3 φ.v5

/-! ## The other operations -/

/-- From the key to the generator's arguments. -/
def beforeOps (arg0 : TRef sig ⟨S2, .i32⟩) (arg1 arg2 : TRef sig ⟨S_, .f32⟩) (φ : fn_uniform.Bufs) : List (HloOp τ sig (Elt F)) :=
  [ TRef.unary arg1 φ.v0 id,
    TRef.unary arg2 φ.v1 id,
    TRef.unary φ.v0 φ.v2 (broadcastInDim S1 ![] bcast_S_S1),
    TRef.unary φ.v1 φ.v3 (broadcastInDim S1 ![] bcast_S_S1),
    TRef.unary arg0 φ.v4 (extractStridedSlice S1 ![0] · slices_S2_S1_0),
    TRef.reshape φ.v4 φ.v5 (rfl : (.i32 : EltTy) = .i32) shapeCasts_S1_S_,
    TRef.unary arg0 φ.v6 (extractStridedSlice S1 ![1] · slices_S2_S1_1),
    TRef.reshape φ.v6 φ.v7 (rfl : (.i32 : EltTy) = .i32) shapeCasts_S1_S_,
    TRef.nullary φ.v8 (iotaInDim S4294967 64 0),
    TRef.nullary φ.c (constantI S_ 64 1#64),
    TRef.unary φ.c φ.v9 (broadcastInDim S4294967 ![] bcast_S_S4294967),
    TRef.binary φ.v9 φ.v8 φ.v10 muli,
    TRef.nullary φ.c_0 (constantI S_ 64 32#64),
    TRef.unary φ.c_0 φ.v11 (broadcastInDim S4294967 ![] bcast_S_S4294967),
    TRef.binary φ.v10 φ.v11 φ.v12 Host.shrui,
    TRef.unary φ.v10 φ.v13 (trunci 32 · natLt_32_64),
    TRef.unary φ.v12 φ.v14 (trunci 32 · natLt_32_64) ]

/-- From the generator's words to numbers in the unit interval. -/
def afterOps (φ : fn_uniform.Bufs) : List (HloOp τ sig (Elt F)) :=
  [ TRef.binary φ.call0.v171 φ.call0.v175 φ.v16 xori,
    TRef.nullary φ.c_1 (constantI S_ 32 9#32),
    TRef.unary φ.c_1 φ.v17 (broadcastInDim S4294967 ![] bcast_S_S4294967),
    TRef.binary φ.v16 φ.v17 φ.v18 Host.shrui,
    TRef.nullary φ.c_2 (constantI S_ 32 1065353216#32),
    TRef.unary φ.c_2 φ.v19 (broadcastInDim S4294967 ![] bcast_S_S4294967),
    TRef.binary φ.v18 φ.v19 φ.v20 ori,
    TRef.unary φ.v20 φ.v21 (bitcastToFloat .f32),
    TRef.nullary φ.cst (constant S_ .f32 0x3F800000#32),
    TRef.unary φ.cst φ.v22 (broadcastInDim S4294967 ![] bcast_S_S4294967),
    TRef.binary φ.v21 φ.v22 φ.v23 subf,
    TRef.binary φ.v3 φ.v2 φ.v24 subf,
    TRef.unary φ.v24 φ.v25 (broadcastInDim S4294967 ![0] bcast_S1_S4294967_0),
    TRef.binary φ.v23 φ.v25 φ.v26 mulf,
    TRef.unary φ.v2 φ.v27 (broadcastInDim S4294967 ![0] bcast_S1_S4294967_0),
    TRef.binary φ.v26 φ.v27 φ.v28 addf,
    TRef.unary φ.v2 φ.v29 (broadcastInDim S4294967 ![0] bcast_S1_S4294967_0),
    TRef.binary φ.v29 φ.v28 φ.v30 maximumf ]

/-- The key and the interval's ends. -/
def mainOps0 : List (HloOp τ sig (Elt F)) :=
  [ TRef.nullary (.of main_c) (constantI S_ 32 12345#32),
    TRef.nullary (.of main_c_0) (constantI S_ 32 32#32),
    TRef.binary (.of main_c) (.of main_c_0) (.of main_v0) Host.shrui,
    TRef.unary (.of main_v0) (.of main_v1) id,
    TRef.unary (.of main_v1) (.of main_v2) (broadcastInDim S1 ![] bcast_S_S1),
    TRef.nullary (.of main_c_1) (constantI S_ 32 4294967295#32),
    TRef.binary (.of main_c) (.of main_c_1) (.of main_v3) andi,
    TRef.unary (.of main_v3) (.of main_v4) id,
    TRef.unary (.of main_v4) (.of main_v5) (broadcastInDim S1 ![] bcast_S_S1),
    TRef.binary (.of main_v2) (.of main_v5) (.of main_v6) (fun a b => concatenate S2 0 [⟨S1, a⟩, ⟨S1, b⟩] concatenates_S1_S1_S2_d0),
    TRef.nullary (.of main_cst) (constant S_ .f32 0x00000000#32),
    TRef.nullary (.of main_cst_2) (constant S_ .f32 0x3F800000#32) ]

/-- The mask and the choice. -/
def mainOps1 : List (HloOp τ sig (Elt F)) :=
  [ TRef.nullary (.of main_cst_3) (constant S_ .f32 0x3F000000#32),
    TRef.unary (.of main_cst_3) (.of main_v8) (broadcastInDim S4294967 ![] bcast_S_S4294967),
    TRef.binary (.of main_v7) (.of main_v8) (.of main_v9) addf,
    TRef.unary (.of main_v9) (.of main_v10) Host.floor,
    TRef.nullary (.of main_cst_4) (constant S_ .f32 0x00000000#32),
    TRef.unary (.of main_cst_4) (.of main_v11) (broadcastInDim S4294967 ![] bcast_S_S4294967),
    TRef.binary (.of main_v10) (.of main_v11) (.of main_v12) (cmpf .une),
    TRef.unary (.of main_v12) (.of main_v13) id,
    TRef.nullary (.of main_cst_5) (constant S_ .f32 0x40000000#32),
    TRef.unary (.of main_cst_5) (.of main_v14) (broadcastInDim S4294967 ![] bcast_S_S4294967),
    TRef.binary (.of main_arg1) (.of main_v14) (.of main_v15) mulf,
    TRef.nullary (.of main_cst_6) (constant S_ .f32 0x00000000#32),
    TRef.unary (.of main_cst_6) (.of main_v16) (broadcastInDim S4294967 ![] bcast_S_S4294967) ]

/-- The reference's operations in order. -/
def ops : List (HloOp τ sig (Elt F)) :=
  mainOps0 ++ (beforeOps (.of main_v6) (.of main_cst) (.of main_cst_2) main_call0
    ++ (threefryOps main_call0.v5 main_call0.v7 main_call0.v14 main_call0.v13 main_call0.call0
    ++ (afterOps main_call0 ++ (mainOps1 ++ [TRef.ternary (.of main_v13) (.of main_v15) (.of main_v16) main_call1.v0 select]))))

theorem threefry_isSeq (a0 a1 : TK) (a2 a3 : TW) (φ : fn_threefry2x32.Bufs) :
    IsSeq (fn_threefry2x32.body (F := F) a0 a1 a2 a3 φ) (threefryOps a0 a1 a2 a3 φ) := by
  unfold IsSeq
  rfl

/-- The reference is that line of operations. -/
theorem main_isSeq (d : Dev nD) : IsSeq (main (F := F) d) ops := by
  unfold IsSeq
  rfl

/-- Each operation writes the buffer after the one the operation before wrote. -/
theorem ops_inOrder : InOrder 2 (ops (F := F)) := by
  repeat'
    first
      | exact InOrder.nil _
      | refine InOrder.cons ?_ ?_
      | exact writes_nullary _ _ _ rfl
      | exact writes_unary _ _ _ _ _ rfl (by decide)
      | exact writes_binary _ _ _ _ _ _ _ rfl (by decide) (by decide)
      | exact writes_ternary _ _ _ _ _ _ _ _ _ rfl (by decide) (by decide) (by decide)
      | exact writes_reshape _ _ _ _ _ _ rfl (by decide)

/-- The reference runs; at the end each operation, run again, would change nothing, the two arguments are unchanged and
    every semaphore counter is zero. -/
theorem run (m : (ℓ : Loc nD τ sig) → Buf (Elt F) ℓ) (ρ : Dev nD → PrngReg) :
    θ_run (defs (F := F)) (onTc (τ := τ) (main (F := F))) ⟨m, fun _ => 0, ρ⟩ fun r => (∀ d : Dev nD, ∃ V : Valuation τ sig (Elt F),
      Fixed V ops ∧ (∀ b : Ref sig .tc, r.2.mem ((d.tc : Thread nD τ).loc b) = V (Proc.devRef .tc b))
      ∧ V (Proc.devRef .tc main_arg0) = m ((d.tc : Thread nD τ).loc main_arg0)
      ∧ V (Proc.devRef .tc main_arg1) = m ((d.tc : Thread nD τ).loc main_arg1)) ∧ r.2.sem = fun _ => 0 :=
  θ_run_mono (run_hlo defs main main_isSeq (by decide) (by decide)
    (List.forall_iff_forall_mem.mpr fun o ho => (ops_inOrder.sub o ho).1) (fun o ho => (ops_inOrder.sub o ho).2) m ρ)
    fun r h => ⟨fun d => ⟨_, ops_inOrder.fixed _, h d, ops_inOrder.after_lt _ (by decide), ops_inOrder.after_lt _ (by decide)⟩,
      sem_eq_zero_of_no_sems (by decide) _⟩

end Cert.Proof.Ref
-- ==== Proof.Words.lean ====
/-
  The generator on words: five groups of four rounds with a key added after each; and that the kernel's random word of
  element `j` is the generator's word of `j`.
-/
module

public import proofs.«01_k».proof.Proof.Arrays
public import Idealize.ShloMosaic.Lib.Pointwise.Reshape

@[expose] public section

namespace Cert.Proof.Words

open Idealize.ShloMosaic

/-- The generator's two words, and a rotation given by its two shifts. -/
abbrev Pair : Type := BitVec 32 × BitVec 32

/-- One round: the sum, and the second word rotated, with the sum exclusive-ored in. -/
def round (k : Pair) (p : Pair) : Pair := (p.1 + p.2, ((p.2 <<< k.1) ||| (p.2 >>> k.2)) ^^^ (p.1 + p.2))

/-- Rounds one after another. -/
def rounds : List Pair → Pair → Pair
  | [], p => p
  | k :: l, p => rounds l (round k p)

/-- A key's two words added, and the number of the group to the second. -/
def inject (a b n : BitVec 32) (p : Pair) : Pair := (p.1 + a, p.2 + b + n)

/-- The two lists of rotations. -/
def even : List Pair := [(13#32, 19#32), (15#32, 17#32), (26#32, 6#32), (6#32, 26#32)]
def odd : List Pair := [(17#32, 15#32), (29#32, 3#32), (16#32, 16#32), (24#32, 8#32)]

/-- The generator with key words `a`, `b`, `c` from the words `p`. -/
def generate (a b c : BitVec 32) (p : Pair) : Pair :=
  inject c a 5#32 (rounds even (inject b c 4#32 (rounds odd (inject a b 3#32 (rounds even (inject c a 2#32 (rounds odd
    (inject b c 1#32 (rounds even p)))))))))

/-- The random word of number `x`, of the key (0, 12345). -/
def word (x : BitVec 32) : BitVec 32 :=
  (generate 0#32 12345#32 466693091#32 (0#32, x + 12345#32)).1 ^^^ (generate 0#32 12345#32 466693091#32 (0#32, x + 12345#32)).2

end Cert.Proof.Words

namespace Cert.Proof.Drop

open Cert.KernelIdeal Cert.KernelIdeal.Gen Cert.Proof.Words
open Idealize.ShloMosaic

/-- The kernel's first group of rounds. -/
theorem group_first (i : grid1.Coords) (z : S1024x128.Idx) :
    (k1_pay9 i z, k1_pay10 i z) = rounds even (0#32, k1_pay2 i z) :=
  calc (k1_pay9 i z, k1_pay10 i z)
      = round (6#32, 26#32) (k1_pay7 i z, k1_pay8 i z) := rfl
    _ = round (6#32, 26#32) (round (26#32, 6#32) (k1_pay5 i z, k1_pay6 i z)) := rfl
    _ = round (6#32, 26#32) (round (26#32, 6#32) (round (15#32, 17#32) (k1_pay3 i z, k1_pay4 i z))) := rfl
    _ = round (6#32, 26#32) (round (26#32, 6#32) (round (15#32, 17#32) (round (13#32, 19#32) (0#32, k1_pay2 i z)))) := by
      have h : (k1_pay3 i z, k1_pay4 i z) = round (13#32, 19#32) (0#32, k1_pay2 i z) := rfl
      rw [h]
    _ = rounds even (0#32, k1_pay2 i z) := rfl

/-- The kernel's second group, with the keys before and after it. -/
theorem group_second (v w : IVec S1024x128 32) (z : S1024x128.Idx) :
    (k1_pay18 v w 12345#32 z + 466693091#32, k1_pay19 v w 12345#32 z)
      = inject 466693091#32 0#32 2#32 (rounds odd (inject 12345#32 466693091#32 1#32 (v z, w z))) :=
  calc (k1_pay18 v w 12345#32 z + 466693091#32, k1_pay19 v w 12345#32 z)
      = inject 466693091#32 0#32 2#32 (round (24#32, 8#32) (k1_pay16 v w 12345#32 z, k1_pay17 v w 12345#32 z)) := rfl
    _ = inject 466693091#32 0#32 2#32 (round (24#32, 8#32) (round (16#32, 16#32)
          (k1_pay14 v w 12345#32 z, k1_pay15 v w 12345#32 z))) := rfl
    _ = inject 466693091#32 0#32 2#32 (round (24#32, 8#32) (round (16#32, 16#32) (round (29#32, 3#32)
          (k1_pay12 v w 12345#32 z, k1_pay13 v w 12345#32 z)))) := rfl
    _ = inject 466693091#32 0#32 2#32 (rounds odd (inject 12345#32 466693091#32 1#32 (v z, w z))) := rfl

/-- The kernel's third group, the key after it and the first two rounds of the fourth group, from the sum and the two
    shifts of the third group's first round. -/
theorem group_third (s h l : IVec S1024x128 32) (z : S1024x128.Idx) (x y : BitVec 32) (hs : s z = x + y)
    (hh : h z = y <<< 13#32) (hl : l z = y >>> 19#32) :
    (k1_pay32 s h l z, k1_pay33 s h l z)
      = rounds [(17#32, 15#32), (29#32, 3#32)] (inject 0#32 12345#32 3#32 (rounds even (x, y))) := by
  have h0 : (s z, k1_pay23 s h l z) = round (13#32, 19#32) (x, y) := by
    show (s z, (h z ||| l z) ^^^ s z) = _
    rw [hs, hh, hl]; rfl
  calc (k1_pay32 s h l z, k1_pay33 s h l z)
      = round (29#32, 3#32) (k1_pay30 s h l z, k1_pay31 s h l z) := rfl
    _ = round (29#32, 3#32) (round (17#32, 15#32) (k1_pay28 s h l z + 0#32, k1_pay29 s h l z)) := rfl
    _ = round (29#32, 3#32) (round (17#32, 15#32) (inject 0#32 12345#32 3#32 (round (6#32, 26#32)
          (k1_pay26 s h l z, k1_pay27 s h l z)))) := rfl
    _ = round (29#32, 3#32) (round (17#32, 15#32) (inject 0#32 12345#32 3#32 (round (6#32, 26#32) (round (26#32, 6#32)
          (k1_pay24 s h l z, k1_pay25 s h l z))))) := rfl
    _ = round (29#32, 3#32) (round (17#32, 15#32) (inject 0#32 12345#32 3#32 (round (6#32, 26#32) (round (26#32, 6#32)
          (round (15#32, 17#32) (s z, k1_pay23 s h l z)))))) := rfl
    _ = round (29#32, 3#32) (round (17#32, 15#32) (inject 0#32 12345#32 3#32 (round (6#32, 26#32) (round (26#32, 6#32)
          (round (15#32, 17#32) (round (13#32, 19#32) (x, y))))))) := by rw [h0]
    _ = rounds [(17#32, 15#32), (29#32, 3#32)] (inject 0#32 12345#32 3#32 (rounds even (x, y))) := rfl

/-- The rest of the kernel's fourth group, the key after it and the fifth group's rounds. -/
theorem group_fourth (w s h : IVec S1024x128 32) (z : S1024x128.Idx) (x y : BitVec 32) (hw : w z = y) (hs : s z = x + y)
    (hh : h z = y <<< 16#32) :
    (k1_pay45 w s h z, k1_pay46 w s h z)
      = rounds even (inject 12345#32 466693091#32 4#32 (rounds [(16#32, 16#32), (24#32, 8#32)] (x, y))) := by
  have h0 : (s z, k1_pay36 w s h z) = round (16#32, 16#32) (x, y) := by
    show (s z, (h z ||| (w z >>> 16#32)) ^^^ s z) = _
    rw [hs, hh, hw]; rfl
  calc (k1_pay45 w s h z, k1_pay46 w s h z)
      = round (6#32, 26#32) (k1_pay43 w s h z, k1_pay44 w s h z) := rfl
    _ = round (6#32, 26#32) (round (26#32, 6#32) (k1_pay41 w s h z, k1_pay42 w s h z)) := rfl
    _ = round (6#32, 26#32) (round (26#32, 6#32) (round (15#32, 17#32) (k1_pay39 w s h z, k1_pay40 w s h z))) := rfl
    _ = round (6#32, 26#32) (round (26#32, 6#32) (round (15#32, 17#32) (round (13#32, 19#32)
          (k1_pay37 w s h z + 12345#32, k1_pay38 w s h z)))) := rfl
    _ = rounds even (inject 12345#32 466693091#32 4#32 (round (24#32, 8#32) (s z, k1_pay36 w s h z))) := rfl
    _ = rounds even (inject 12345#32 466693091#32 4#32 (round (24#32, 8#32) (round (16#32, 16#32) (x, y)))) := by rw [h0]
    _ = rounds even (inject 12345#32 466693091#32 4#32 (rounds [(16#32, 16#32), (24#32, 8#32)] (x, y))) := rfl

/-- What the second part hands on: the sum of its two words and the two shifts of the second. -/
theorem handed_second (v w : IVec S1024x128 32) (z : S1024x128.Idx) :
    k1_pay20 v w 12345#32 z = (k1_pay18 v w 12345#32 z + 466693091#32) + k1_pay19 v w 12345#32 z
      ∧ k1_pay21 v w 12345#32 z = k1_pay19 v w 12345#32 z <<< 13#32
      ∧ k1_pay22 v w 12345#32 z = k1_pay19 v w 12345#32 z >>> 19#32 := ⟨rfl, rfl, rfl⟩

/-- What the third part hands on: its second word, the sum, and that word's left shift. -/
theorem handed_third (s h l : IVec S1024x128 32) (z : S1024x128.Idx) :
    k1_pay34 s h l z = k1_pay32 s h l z + k1_pay33 s h l z
      ∧ k1_pay35 s h l z = k1_pay33 s h l z <<< 16#32 := ⟨rfl, rfl⟩

/-- The third and fourth parts together. -/
theorem groups_last (s h l : IVec S1024x128 32) (z : S1024x128.Idx) (p : Pair) (hs : s z = p.1 + p.2)
    (hh : h z = p.2 <<< 13#32) (hl : l z = p.2 >>> 19#32) :
    (k1_pay45 (k1_pay33 s h l) (k1_pay34 s h l) (k1_pay35 s h l) z,
      k1_pay46 (k1_pay33 s h l) (k1_pay34 s h l) (k1_pay35 s h l) z)
      = rounds even (inject 12345#32 466693091#32 4#32 (rounds odd (inject 0#32 12345#32 3#32 (rounds even p)))) := by
  have h4 := group_fourth (k1_pay33 s h l) (k1_pay34 s h l) (k1_pay35 s h l) z (k1_pay32 s h l z) (k1_pay33 s h l z) rfl
    (handed_third s h l z).1 (handed_third s h l z).2
  rw [group_third s h l z p.1 p.2 hs hh hl] at h4
  exact h4

/-- The two words at the end of the kernel's five groups of rounds. -/
theorem words_eq (i : grid1.Coords) (z : S1024x128.Idx) :
    inject 466693091#32 0#32 5#32 (wordA i z, wordB i z)
      = generate 0#32 12345#32 466693091#32 (0#32, k1_pay2 i z) := by
  have h1 := group_first i z
  unfold wordA wordB generate
  generalize k1_pay9 i = v at h1 ⊢
  generalize k1_pay10 i = w at h1 ⊢
  have h2 := group_second v w z
  rw [h1] at h2
  obtain ⟨hs, hh, hl⟩ := handed_second v w z
  generalize k1_pay20 v w 12345#32 = s at hs ⊢
  generalize k1_pay21 v w 12345#32 = h at hh ⊢
  generalize k1_pay22 v w 12345#32 = l at hl ⊢
  rw [groups_last s h l z (k1_pay18 v w 12345#32 z + 466693091#32, k1_pay19 v w 12345#32 z) hs hh hl, h2]

/-- The number of element `z` of block `i`, with the key's word added. -/
theorem number_eq (i : grid1.Coords) (z : S1024x128.Idx) :
    k1_pay2 i z = BitVec.ofNat 32 ((i 0).val * 131072 + ((z 0).val * 128 + (z 1).val)) + 12345#32 := by
  show BitVec.ofNat 32 (i 0).val * 131072#32 + 128#32 * BitVec.ofNat 32 (0 * 1024 + (z 0).val)
    + BitVec.ofNat 32 (0 * 128 + (z 1).val) + 12345#32 = _
  have h1 : (128#32 : BitVec 32) = BitVec.ofNat 32 128 := rfl
  have h2 : (131072#32 : BitVec 32) = BitVec.ofNat 32 131072 := rfl
  rw [h1, h2, ← BitVec.ofNat_mul, ← BitVec.ofNat_mul, ← BitVec.ofNat_add, ← BitVec.ofNat_add]
  exact congrArg (fun n : ℕ => BitVec.ofNat 32 n + 12345#32) (by omega)

/-- The kernel's random word of element `j` is the generator's word of `j`. -/
theorem bits_eq (j : S4294967.Idx) : bits (grid1.coords (blkOf j)) (locOf j) = word (BitVec.ofNat 32 (j 0).val) := by
  generalize hz : Shape.reshapeEquiv shapeCasts_S1024x128_S131072 (locOf j) = z
  have hp : (z 0).val * 128 + (z 1).val = (j 0).val % 131072 := by
    have h := Shape.rowMajor_reshapeEquiv shapeCasts_S1024x128_S131072 (locOf j)
    rw [hz] at h
    exact ((rowMajor_val2 z 128 rfl).symm.trans h).trans (rowMajor_val1 (locOf j))
  have hn : k1_pay2 (grid1.coords (blkOf j)) z = BitVec.ofNat 32 (j 0).val + 12345#32 := by
    have hc : (grid1.coords (blkOf j) 0).val = (blkOf j).val := coords_val (blkOf j)
    rw [number_eq, hp, hc]
    have : (blkOf j).val * 131072 + (j 0).val % 131072 = (j 0).val := by
      show (j 0).val / 131072 * 131072 + _ = _
      omega
    rw [this]
  have hw := words_eq (grid1.coords (blkOf j)) z
  rw [hn] at hw
  unfold bits word
  rw [hz, ← hw]
  rfl

end Cert.Proof.Drop
-- ==== Proof.Mask.lean ====
/-
  The reference's mask on the ideal floats: the floor of the random number plus a half is not zero exactly where the
  random word has its top bit set.
-/
module

public import Idealize.ShloMosaic.Lib.IdealHost

@[expose] public section

noncomputable section

namespace Cert.Proof.Mask

open Idealize.ShloMosaic

/-- The word under the exponent of one: 1 plus the word's upper 23 bits over `2 ^ 23`. -/
theorem ofBits_unit (w : BitVec 32) :
    Ideal.ofBits .f32 ((w >>> 9) ||| 1065353216#32) = ((1 + ((w.toNat / 512 : ℕ) : ℝ) / 2 ^ 23 : ℝ) : EReal) := by
  have hm : w.toNat / 512 < 2 ^ 23 := by have := w.isLt; omega
  have hn : ((w >>> 9) ||| 1065353216#32).toNat = 2 ^ 23 * 127 + w.toNat / 512 := by
    rw [BitVec.toNat_or, BitVec.toNat_ushiftRight, Nat.shiftRight_eq_div_pow, Nat.or_comm]
    exact (Nat.two_pow_add_eq_or_of_lt hm 127).symm
  generalize (w >>> 9) ||| 1065353216#32 = b at hn
  have hs : b.extractLsb' 31 1 = 0#1 := by
    apply BitVec.eq_of_toNat_eq
    rw [BitVec.extractLsb'_toNat, hn, Nat.shiftRight_eq_div_pow]
    show _ = 0
    omega
  have he : (b.extractLsb' 23 8).toNat = 127 := by
    rw [BitVec.extractLsb'_toNat, hn, Nat.shiftRight_eq_div_pow]
    omega
  have hf : (b.extractLsb' 0 23).toNat = w.toNat / 512 := by
    rw [BitVec.extractLsb'_toNat, hn, Nat.shiftRight_eq_div_pow]
    omega
  show Ideal.ieee 8 23 b = _
  unfold Ideal.ieee
  simp only [show 8 + 23 = 31 from rfl, hs, he, hf]
  norm_num [-EReal.coe_mul, -EReal.coe_add]
  ring

/-- The pattern of a half. -/
theorem ofBits_half : Ideal.ofBits .f32 0x3F000000#32 = ((1 / 2 : ℝ) : EReal) := by
  simp [Ideal.ofBits, Ideal.ieee, -EReal.coe_mul]; norm_num

/-- The reference keeps exactly the words from `2 ^ 31`. -/
theorem keep_eq (w : BitVec 32) :
    BitVec.ofBool (decide (Ideal.liftRound Int.floor
        (max (0 : EReal) ((Ideal.ofBits .f32 ((w >>> 9) ||| 1065353216#32) - 1) * (1 - 0) + 0) + ((1 / 2 : ℝ) : EReal)) ≠ 0))
      = IntOp.cmpi .uge w 2147483648#32 := by
  have hu : (0 : ℝ) ≤ ((w.toNat / 512 : ℕ) : ℝ) / 2 ^ 23 := by positivity
  have hv : max (0 : EReal) ((Ideal.ofBits .f32 ((w >>> 9) ||| 1065353216#32) - 1) * (1 - 0) + 0) + ((1 / 2 : ℝ) : EReal)
      = ((((w.toNat / 512 : ℕ) : ℝ) / 2 ^ 23 + 1 / 2 : ℝ) : EReal) := by
    rw [ofBits_unit, sub_zero, mul_one, add_zero, ← EReal.coe_one, ← EReal.coe_sub, add_sub_cancel_left,
      ← EReal.coe_zero, max_eq_right (EReal.coe_le_coe_iff.mpr hu), ← EReal.coe_add]
  rw [hv]
  show BitVec.ofBool (decide (((⌊((w.toNat / 512 : ℕ) : ℝ) / 2 ^ 23 + 1 / 2⌋ : ℝ) : EReal) ≠ 0)) = _
  have hk : ((((⌊((w.toNat / 512 : ℕ) : ℝ) / 2 ^ 23 + 1 / 2⌋ : ℤ) : ℝ) : EReal) ≠ 0) ↔ 2 ^ 31 ≤ w.toNat := by
    rw [← EReal.coe_zero, Ne, EReal.coe_eq_coe_iff, Int.cast_eq_zero, Int.floor_eq_zero_iff, Set.mem_Ico]
    constructor
    · intro h
      by_contra hw
      refine h ⟨by linarith, ?_⟩
      have hq : w.toNat / 512 + 1 ≤ 2 ^ 22 := by omega
      have : (((w.toNat / 512 : ℕ) : ℝ)) + 1 ≤ 2 ^ 22 := by exact_mod_cast hq
      linarith
    · rintro hw ⟨-, h⟩
      have hq : 2 ^ 22 ≤ w.toNat / 512 := by omega
      have : (2 : ℝ) ^ 22 ≤ ((w.toNat / 512 : ℕ) : ℝ) := by exact_mod_cast hq
      linarith
  rw [decide_eq_decide.mpr hk]
  rfl

end Cert.Proof.Mask
-- ==== Proof.Value.lean ====
/-
  The reference's values: its equations read from the key to the result, which is the kernel's.
-/
module

public import proofs.«01_k».proof.Proof.Ref
public import proofs.«01_k».proof.Proof.Words
public import proofs.«01_k».proof.Proof.Mask

@[expose] public section

noncomputable section

namespace Cert.Proof.Ref

open Cert.ReferenceIdeal Cert.ReferenceIdeal.Gen Cert.Proof.Line Cert.Proof.Words
open Idealize.ShloMosaic Idealize.ShloMosaic.StableHlo

variable {F : FTy → Type} [FloatOps F] {V : Valuation τ sig (Elt F)}

/-- What the buffers of an array of words and of one word hold. -/
abbrev wordsOf (V : Valuation τ sig (Elt F)) (x : TW) : IVec S4294967 32 := get V x
abbrev wordOf (V : Valuation τ sig (Elt F)) (x : TK) : IVec S_ 32 := get V x

/-- A shift by less than 32 is the shift of words. -/
theorem shli_lt (x n : BitVec 32) (h : n.toNat < 32) : IntOp.shli .host x n = x <<< n := if_pos h
theorem shrui_lt (x n : BitVec 32) (h : n.toNat < 32) : IntOp.shrui .host x n = x >>> n := if_pos h

/-! ## The generator -/

/-- A round's two words. -/
theorem round_get (R : Round) (x y : TW) (hr : R.r.toNat < 32 ∧ R.l.toNat < 32) (h : Fixed V (R.ops x y)) (j : S4294967.Idx) :
    (wordsOf V R.sum j, wordsOf V R.out j) = round (R.r, R.l) (wordsOf V x j, wordsOf V y j) := by
  simp only [Fixed, Round.ops, List.forall_mem_cons] at h
  obtain ⟨h1, h2, h3, h4, h5, h6, h7, h8, h9, -⟩ := h
  have e1 : wordsOf V R.sum = addi (wordsOf V x) (wordsOf V y) := get_binary h1
  have e3 : wordsOf V R.br = fun _ => R.r := (get_unary h3).trans (by rw [get_nullary h2]; rfl)
  have e4 : wordsOf V R.hi = Host.shli (wordsOf V y) (wordsOf V R.br) := get_binary h4
  have e6 : wordsOf V R.bl = fun _ => R.l := (get_unary h6).trans (by rw [get_nullary h5]; rfl)
  have e7 : wordsOf V R.lo = Host.shrui (wordsOf V y) (wordsOf V R.bl) := get_binary h7
  have e8 : wordsOf V R.rot = ori (wordsOf V R.hi) (wordsOf V R.lo) := get_binary h8
  have e9 : wordsOf V R.out = xori (wordsOf V R.sum) (wordsOf V R.rot) := get_binary h9
  rw [e9, e8, e7, e6, e4, e3, e1]
  refine Prod.ext rfl ?_
  show (wordsOf V x j + wordsOf V y j) ^^^ (IntOp.shli .host (wordsOf V y j) R.r ||| IntOp.shrui .host (wordsOf V y j) R.l) = _
  rw [shli_lt _ _ hr.1, shrui_lt _ _ hr.2, BitVec.xor_comm]
  rfl

/-- The two words after several rounds. -/
theorem rounds_get (l : List Round) (x y : TW) (hl : ∀ R ∈ l, R.r.toNat < 32 ∧ R.l.toNat < 32) (h : Fixed V (roundsOps l x y))
    (j : S4294967.Idx) :
    (wordsOf V (roundsOut l x y).1 j, wordsOf V (roundsOut l x y).2 j)
      = rounds (l.map fun R => (R.r, R.l)) (wordsOf V x j, wordsOf V y j) := by
  induction l generalizing x y with
  | nil => rfl
  | cons R l ih =>
    refine (ih R.sum R.out (fun S hS => hl S (List.mem_cons_of_mem _ hS)) h.right).trans ?_
    rw [round_get R x y (hl R List.mem_cons_self) h.left j]
    rfl

/-- The two words after a group. -/
theorem group_get (G : Group) (x y : TW) (a b : BitVec 32) (hl : ∀ R ∈ G.rounds, R.r.toNat < 32 ∧ R.l.toNat < 32)
    (ha : wordOf V G.ka = fun _ => a) (hb : wordOf V G.kb = fun _ => b) (h : Fixed V (G.ops x y)) (j : S4294967.Idx) :
    (wordsOf V G.oa j, wordsOf V G.ob j)
      = inject a b G.c (rounds (G.rounds.map fun R => (R.r, R.l)) (wordsOf V x j, wordsOf V y j)) := by
  rw [← rounds_get G.rounds x y hl h.left j]
  replace h := h.right
  simp only [Fixed, List.forall_mem_cons] at h
  obtain ⟨h1, h2, h3, h4, h5, h6, h7, -⟩ := h
  have e1 : wordsOf V G.ba = fun _ => a := (get_unary h1).trans (congrArg (broadcastInDim S4294967 ![] bcast_S_S4294967) ha)
  have e2 : wordsOf V G.oa = addi (wordsOf V (roundsOut G.rounds x y).1) (wordsOf V G.ba) := get_binary h2
  have e3 : wordsOf V G.bb = fun _ => b := (get_unary h3).trans (congrArg (broadcastInDim S4294967 ![] bcast_S_S4294967) hb)
  have e4 : wordsOf V G.sb = addi (wordsOf V (roundsOut G.rounds x y).2) (wordsOf V G.bb) := get_binary h4
  have e6 : wordsOf V G.bc = fun _ => G.c := (get_unary h6).trans (by rw [get_nullary h5]; rfl)
  have e7 : wordsOf V G.ob = addi (wordsOf V G.sb) (wordsOf V G.bc) := get_binary h7
  rw [e7, e6, e4, e3, e2, e1]
  rfl

/-- The generator's two words, of the key `a`, `b`. -/
theorem threefry_get (a0 a1 : TK) (a2 a3 : TW) (φ : fn_threefry2x32.Bufs) (a b : BitVec 32)
    (ha : wordOf V a0 = fun _ => a) (hb : wordOf V a1 = fun _ => b) (h : Fixed V (threefryOps a0 a1 a2 a3 φ)) (j : S4294967.Idx) :
    (wordsOf V φ.v171 j, wordsOf V φ.v175 j)
      = generate a b (a ^^^ b ^^^ 466688986#32) (wordsOf V a2 j + a, wordsOf V a3 j + b) := by
  have hk := h.left
  simp only [Fixed, keyOps, List.forall_mem_cons] at hk
  obtain ⟨h1, h2, h3, h4, h5, h6, h7, -⟩ := hk
  have e1 : wordOf V φ.v0 = fun _ => a ^^^ b := (get_binary h1).trans (congr (congrArg xori ha) hb)
  have hc : wordOf V φ.v1 = fun _ => a ^^^ b ^^^ 466688986#32 :=
    (get_binary h3).trans (congr (congrArg xori e1) (get_nullary h2))
  have e4 : wordsOf V φ.v2 = fun _ => a := (get_unary h4).trans (congrArg (broadcastInDim S4294967 ![] bcast_S_S4294967) ha)
  have e5 : wordsOf V φ.v3 = addi (wordsOf V a2) (wordsOf V φ.v2) := get_binary h5
  have e6 : wordsOf V φ.v4 = fun _ => b := (get_unary h6).trans (congrArg (broadcastInDim S4294967 ![] bcast_S_S4294967) hb)
  have e7 : wordsOf V φ.v5 = addi (wordsOf V a3) (wordsOf V φ.v4) := get_binary h7
  have ep : (wordsOf V φ.v3 j, wordsOf V φ.v5 j) = (wordsOf V a2 j + a, wordsOf V a3 j + b) := by
    rw [e7, e6, e5, e4]; rfl
  generalize a ^^^ b ^^^ 466688986#32 = c at hc ⊢
  replace h := h.right
  rw [groups] at h
  have g5 := group_get _ _ _ c a (by simp) hc ha h.right.right.right.right.left j
  have g4 := group_get _ _ _ b c (by simp) hb hc h.right.right.right.left j
  have g3 := group_get _ _ _ a b (by simp) ha hb h.right.right.left j
  have g2 := group_get _ _ _ c a (by simp) hc ha h.right.left j
  have g1 := group_get _ _ _ b c (by simp) hb hc h.left j
  rw [g4, g3, g2, g1, ep] at g5
  exact g5

/-! ## The key and the counts -/

/-- The key is (0, 12345), and the interval's ends are zero and one. -/
theorem key_get (h : Fixed V (mainOps0 (F := F))) :
    (∀ k : S2.Idx, (get V (.of main_v6 : TRef sig ⟨S2, .i32⟩) : IVec S2 32) k = if (k 0).val = 0 then 0#32 else 12345#32)
      ∧ (get V (.of main_cst : TRef sig ⟨S_, .f32⟩) : FVec F S_ .f32) = constant S_ .f32 0x00000000#32
      ∧ (get V (.of main_cst_2 : TRef sig ⟨S_, .f32⟩) : FVec F S_ .f32) = constant S_ .f32 0x3F800000#32 := by
  simp only [Fixed, mainOps0, List.forall_mem_cons] at h
  obtain ⟨h1, h2, h3, h4, h5, h6, h7, h8, h9, h10, h11, h12, -⟩ := h
  refine ⟨fun k => ?_, get_nullary h11, get_nullary h12⟩
  have e1 : wordOf V (.of main_c) = fun _ => 12345#32 := get_nullary h1
  have e3 : wordOf V (.of main_v0) = fun _ => 0#32 := (get_binary h3).trans (congr (congrArg Host.shrui e1) (get_nullary h2))
  have e4 : wordOf V (.of main_v1) = fun _ => 0#32 := (get_unary h4).trans e3
  have e5 : (get V (.of main_v2 : TRef sig ⟨S1, .i32⟩) : IVec S1 32) = fun _ => 0#32 :=
    (get_unary h5).trans (congrArg (broadcastInDim S1 ![] bcast_S_S1) e4)
  have e7 : wordOf V (.of main_v3) = fun _ => 12345#32 := ((get_binary h7).trans (congr (congrArg andi e1) (get_nullary h6))).trans
    (funext fun _ => by show 12345#32 &&& 4294967295#32 = 12345#32; decide)
  have e8 : wordOf V (.of main_v4) = fun _ => 12345#32 := (get_unary h8).trans e7
  have e9 : (get V (.of main_v5 : TRef sig ⟨S1, .i32⟩) : IVec S1 32) = fun _ => 12345#32 :=
    (get_unary h9).trans (congrArg (broadcastInDim S1 ![] bcast_S_S1) e8)
  rw [get_binary h10, e5, e9]
  have hk : (k 0).val < 2 := (k 0).isLt
  split
  · rename_i h0
    exact concatenate_pair_apply_left (s₁ := S1) (s₂ := S1) (t := S2) 0 _ _ _ k rfl (fun | ⟨0, _⟩ => ⟨0, Nat.one_pos⟩)
      (fun b => by match b with | ⟨0, _⟩ => exact h0.symm)
  · rename_i h0
    exact concatenate_pair_apply_right (s₁ := S1) (s₂ := S1) (t := S2) 0 _ _ _ k rfl rfl (fun | ⟨0, _⟩ => ⟨0, Nat.one_pos⟩)
      (fun b hb => by match b with | ⟨0, _⟩ => exact absurd rfl hb) (by show 0 + 1 = (k 0).val; omega)

/-- The generator's arguments: the key's two words, no high count, and the low count of element `j` is `j`. -/
theorem before_get (arg0 : TRef sig ⟨S2, .i32⟩) (arg1 arg2 : TRef sig ⟨S_, .f32⟩) (φ : fn_uniform.Bufs)
    (h : Fixed V (beforeOps (F := F) arg0 arg1 arg2 φ)) (a b : BitVec 32)
    (h0 : ∀ k : S2.Idx, (get V arg0 : IVec S2 32) k = if (k 0).val = 0 then a else b) :
    wordOf V φ.v5 = (fun _ => a) ∧ wordOf V φ.v7 = (fun _ => b)
      ∧ (∀ j : S4294967.Idx, wordsOf V φ.v14 j = 0#32) ∧ (∀ j : S4294967.Idx, wordsOf V φ.v13 j = BitVec.ofNat 32 (j 0).val)
      ∧ (get V φ.v2 : FVec F S1 .f32) = broadcastInDim S1 ![] bcast_S_S1 (get V arg1 : FVec F S_ .f32)
      ∧ (get V φ.v3 : FVec F S1 .f32) = broadcastInDim S1 ![] bcast_S_S1 (get V arg2 : FVec F S_ .f32) := by
  simp only [Fixed, beforeOps, List.forall_mem_cons] at h
  obtain ⟨h1, h2, h3, h4, h5, h6, h7, h8, h9, h10, h11, h12, h13, h14, h15, h16, h17, -⟩ := h
  have e5 : (get V φ.v4 : IVec S1 32) = fun _ => a := by
    rw [get_unary h5]
    funext i
    have hi : (i 0).val < 1 := (i 0).isLt
    exact (h0 _).trans (if_pos (by show 0 + (i 0).val = 0; omega))
  have e7 : (get V φ.v6 : IVec S1 32) = fun _ => b := by
    rw [get_unary h7]
    funext i
    exact (h0 _).trans (if_neg (by show ¬ 1 + (i 0).val = 0; omega))
  have e6 : wordOf V φ.v5 = fun _ => a := (get_reshape h6).trans (by rw [e5]; rfl)
  have e8 : wordOf V φ.v7 = fun _ => b := (get_reshape h8).trans (by rw [e7]; rfl)
  have e11 : (get V φ.v9 : IVec S4294967 64) = fun _ => 1#64 := (get_unary h11).trans (by rw [get_nullary h10]; rfl)
  have e12 : (get V φ.v10 : IVec S4294967 64) = fun j => BitVec.ofNat 64 (j 0).val := by
    rw [get_binary h12, get_nullary h9, e11]
    exact funext fun j => BitVec.one_mul _
  have e14 : (get V φ.v11 : IVec S4294967 64) = fun _ => 32#64 := (get_unary h14).trans (by rw [get_nullary h13]; rfl)
  refine ⟨e6, e8, fun j => ?_, fun j => ?_, ?_, ?_⟩
  · have hj : (j 0).val < 4294967 := (j 0).isLt
    have : wordsOf V φ.v14 = trunci 32 (Host.shrui (fun j : S4294967.Idx => BitVec.ofNat 64 (j 0).val) fun _ => 32#64) natLt_32_64 := by
      rw [← e12, ← e14]
      exact (get_unary h17).trans (congrArg (trunci 32 · natLt_32_64) (get_binary h15))
    rw [this]
    show (BitVec.ofNat 64 (j 0).val >>> 32).setWidth 32 = 0#32
    apply BitVec.eq_of_toNat_eq
    rw [BitVec.toNat_setWidth, BitVec.toNat_ushiftRight, BitVec.toNat_ofNat, Nat.shiftRight_eq_div_pow]
    show (j 0).val % 2 ^ 64 / 2 ^ 32 % 2 ^ 32 = 0
    omega
  · have : wordsOf V φ.v13 = trunci 32 (fun j : S4294967.Idx => BitVec.ofNat 64 (j 0).val) natLt_32_64 := by
      rw [← e12]
      exact get_unary h16
    rw [this]
    exact BitVec.setWidth_ofNat_of_le (by decide) _
  · exact (get_unary h3).trans (congrArg (broadcastInDim S1 ![] bcast_S_S1) (get_unary h1))
  · exact (get_unary h4).trans (congrArg (broadcastInDim S1 ![] bcast_S_S1) (get_unary h2))

/-! ## The random numbers, the mask and the result -/

/-- The random number of a word, from the pattern of a number in [1, 2). -/
def uniform (w : BitVec 32) : F .f32 :=
  FloatOps.maximumf (FloatOps.ofBits .f32 0x00000000#32)
    (FloatOps.addf (FloatOps.mulf (FloatOps.subf (FloatOps.ofBits .f32 ((w >>> 9) ||| 1065353216#32)) (FloatOps.ofBits .f32 0x3F800000#32))
        (FloatOps.subf (FloatOps.ofBits .f32 0x3F800000#32) (FloatOps.ofBits .f32 0x00000000#32)))
      (FloatOps.ofBits .f32 0x00000000#32))

/-- The random numbers are those of the exclusive or of the generator's two words. -/
theorem after_get (φ : fn_uniform.Bufs) (h : Fixed V (afterOps (F := F) φ))
    (h2 : (get V φ.v2 : FVec F S1 .f32) = fun _ => FloatOps.ofBits .f32 0x00000000#32)
    (h3 : (get V φ.v3 : FVec F S1 .f32) = fun _ => FloatOps.ofBits .f32 0x3F800000#32) :
    (get V φ.v30 : FVec F S4294967 .f32) = fun j => uniform (wordsOf V φ.call0.v171 j ^^^ wordsOf V φ.call0.v175 j) := by
  simp only [Fixed, afterOps, List.forall_mem_cons] at h
  obtain ⟨k1, k2, k3, k4, k5, k6, k7, k8, k9, k10, k11, k12, k13, k14, k15, k16, k17, k18, -⟩ := h
  have e1 : wordsOf V φ.v16 = fun j => wordsOf V φ.call0.v171 j ^^^ wordsOf V φ.call0.v175 j := get_binary k1
  have e3 : wordsOf V φ.v17 = fun _ => 9#32 := (get_unary k3).trans (by rw [get_nullary k2]; rfl)
  have e4 : wordsOf V φ.v18 = fun j => (wordsOf V φ.call0.v171 j ^^^ wordsOf V φ.call0.v175 j) >>> 9 :=
    (get_binary k4).trans (congr (congrArg Host.shrui e1) e3)
  have e6 : wordsOf V φ.v19 = fun _ => 1065353216#32 := (get_unary k6).trans (by rw [get_nullary k5]; rfl)
  have e7 : wordsOf V φ.v20 = fun j => ((wordsOf V φ.call0.v171 j ^^^ wordsOf V φ.call0.v175 j) >>> 9) ||| 1065353216#32 :=
    (get_binary k7).trans (congr (congrArg ori e4) e6)
  have e8 : (get V φ.v21 : FVec F S4294967 .f32)
      = fun j => FloatOps.ofBits .f32 (((wordsOf V φ.call0.v171 j ^^^ wordsOf V φ.call0.v175 j) >>> 9) ||| 1065353216#32) :=
    (get_unary k8).trans (congrArg (bitcastToFloat (F := F) .f32) e7)
  have e10 : (get V φ.v22 : FVec F S4294967 .f32) = fun _ => FloatOps.ofBits .f32 0x3F800000#32 :=
    (get_unary k10).trans (by rw [get_nullary k9]; rfl)
  have e13 : (get V φ.v25 : FVec F S4294967 .f32)
      = fun _ => FloatOps.subf (FloatOps.ofBits .f32 0x3F800000#32) (FloatOps.ofBits .f32 0x00000000#32) :=
    (get_unary k13).trans (by rw [get_binary k12, h2, h3]; rfl)
  have e15 : (get V φ.v27 : FVec F S4294967 .f32) = fun _ => FloatOps.ofBits .f32 0x00000000#32 :=
    (get_unary k15).trans (by rw [h2]; rfl)
  have e17 : (get V φ.v29 : FVec F S4294967 .f32) = fun _ => FloatOps.ofBits .f32 0x00000000#32 :=
    (get_unary k17).trans (by rw [h2]; rfl)
  rw [get_binary k18, get_binary k16, get_binary k14, get_binary k11, e8, e10, e13, e15, e17]
  rfl

/-- The result: each value doubled where the floor of its random number plus a half is not zero, else zero. -/
theorem result_get (h : Fixed V (mainOps1 (F := F)))
    (hs : (TRef.ternary (τ := τ) (.of main_v13 : TRef sig ⟨S4294967, .i1⟩) (.of main_v15 : TRef sig ⟨S4294967, .f32⟩)
      (.of main_v16 : TRef sig ⟨S4294967, .f32⟩) main_call1.v0 (select : IVec S4294967 1 → FVec F S4294967 .f32 → _ → _)).result V = V) :
    (get V main_call1.v0 : FVec F S4294967 .f32) = fun j : S4294967.Idx =>
      Scalar.select (FloatOps.cmpf (F := F) (φ := .f32) .une (FloatOps.hostUnary .floor (FloatOps.addf ((get V (.of main_v7 : TRef sig ⟨S4294967, .f32⟩) : FVec F S4294967 .f32) j)
          (FloatOps.ofBits .f32 0x3F000000#32))) (FloatOps.ofBits .f32 0x00000000#32))
        (FloatOps.mulf ((get V (.of main_arg1 : TRef sig ⟨S4294967, .f32⟩) : FVec F S4294967 .f32) j) (FloatOps.ofBits .f32 0x40000000#32))
        (FloatOps.ofBits .f32 0x00000000#32) := by
  simp only [Fixed, mainOps1, List.forall_mem_cons] at h
  obtain ⟨k1, k2, k3, k4, k5, k6, k7, k8, k9, k10, k11, k12, k13, -⟩ := h
  rw [get_ternary hs, get_unary k8, get_binary k7, get_unary k4, get_binary k3, get_unary k2, get_nullary k1, get_unary k6, get_nullary k5,
    get_binary k11, get_unary k10, get_nullary k9, get_unary k13, get_nullary k12]
  rfl

/-- The reference's result from its equations, on any floats. -/
theorem out_get (h : Fixed V (ops (F := F))) :
    (V (Proc.devRef .tc main_v17) : FVec F S4294967 .f32) = fun j : S4294967.Idx =>
      Scalar.select (FloatOps.cmpf (F := F) (φ := .f32) .une (FloatOps.hostUnary .floor (FloatOps.addf (uniform (word (BitVec.ofNat 32 (j 0).val)))
          (FloatOps.ofBits .f32 0x3F000000#32))) (FloatOps.ofBits .f32 0x00000000#32))
        (FloatOps.mulf ((V (Proc.devRef .tc main_arg1) : FVec F S4294967 .f32) j) (FloatOps.ofBits .f32 0x40000000#32))
        (FloatOps.ofBits .f32 0x00000000#32) := by
  obtain ⟨hk, h0, h1⟩ := key_get h.left
  obtain ⟨b5, b7, b14, b13, b2, b3⟩ := before_get _ _ _ _ h.right.left 0#32 12345#32 hk
  rw [h0] at b2
  rw [h1] at b3
  have ha := after_get main_call0 h.right.right.right.left b2 b3
  have hr := result_get h.right.right.right.right.left (h.right.right.right.right.right _ List.mem_cons_self)
  refine Eq.trans hr (funext fun j => ?_)
  have ht := threefry_get _ _ _ _ _ 0#32 12345#32 b5 b7 h.right.right.left j
  have hc : 0#32 ^^^ 12345#32 ^^^ 466688986#32 = 466693091#32 := by decide
  rw [b14, b13, hc, BitVec.add_zero] at ht
  have hw : wordsOf V main_call0.call0.v171 j ^^^ wordsOf V main_call0.call0.v175 j = word (BitVec.ofNat 32 (j 0).val) :=
    congrArg (fun p : Pair => p.1 ^^^ p.2) ht
  have hj := congrFun ha j
  rw [hw] at hj
  exact congrArg (fun u : F .f32 => Scalar.select (FloatOps.cmpf (F := F) (φ := .f32) .une (FloatOps.hostUnary .floor (FloatOps.addf u
    (FloatOps.ofBits .f32 0x3F000000#32))) (FloatOps.ofBits .f32 0x00000000#32)) _ _) hj

/-- On the ideal floats the reference's result is the kernel's. -/
theorem out_eq {V : Valuation τ sig (Elt Ideal)} (h : Fixed V (ops (F := Ideal))) :
    (V (Proc.devRef .tc main_v17) : FVec Ideal S4294967 .f32) = Drop.dropped (F := Ideal) (V (Proc.devRef .tc main_arg1)) := by
  rw [out_get h]
  funext j
  have hm := Mask.keep_eq (word (BitVec.ofNat 32 (j 0).val))
  rw [← Drop.bits_eq j] at hm
  unfold Drop.dropped
  rw [← hm, Drop.bits_eq j, ← Ideal.ofBits_zero_f32, ← Ideal.ofBits_one_f32, ← Mask.ofBits_half]
  rfl

end Cert.Proof.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Run
public import proofs.«01_k».proof.Proof.Ref
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's body table is the same at both readings of its text. -/
theorem defs_eq {F : FTy → Type} [FloatOps F] :
    Cert.Kernel.defs (F := F) = Cert.KernelIdeal.defs := by
  have h : Cert.Kernel.defs₀ (F := F) = Cert.KernelIdeal.defs₀ := by
    funext c ℓ a
    match c, ℓ, a with
    | .tc, 0, _ => rfl
    | .tc, 1, (_, _) => rfl
    | .scScalar _, 0, _ => rfl
    | .scScalar _, 1, _ => rfl
    | .scVector _ _, 0, _ => rfl
    | .scVector _ _, 1, _ => rfl
  exact congrArg (fun D => Cert.Kernel.sc.defs (Pipeline.defs Cert.Kernel.pcfgs D)) h

/-- The kernel at the machine's floats runs, its arguments end unchanged and every counter is zero. -/
theorem frame_kernel : quiescent_Kernel (hKernel := Cert.Kernel.Gen.facts) := fun m g _ => by
  have h := θ_run_mono (Drop.run_main (F := Bits) m g)
    (Q' := fun r => (∀ c : Dev Cert.Kernel.nD, r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)) ∧ r.2.sem = fun _ => 0)
    fun _ h => ⟨fun c => ⟨(h.1 c).1, (h.1 c).2.1⟩, h.2⟩
  exact (congrArg (fun D => (θ_run D (Cert.Kernel.threads (F := Bits)) ⟨m, fun _ => 0, g⟩) _) (defs_eq (F := Bits))).mpr h
/-- The kernel at extended reals runs, its arguments end unchanged and every counter is zero. -/
theorem frame_kernelIdeal : quiescent_KernelIdeal (hKernelIdeal := Cert.KernelIdeal.Gen.facts) := fun m g _ =>
  θ_run_mono (Drop.run_main (F := Ideal) m g) fun _ h => ⟨fun c => ⟨(h.1 c).1, (h.1 c).2.1⟩, h.2⟩

/-- The reference runs, its arguments end unchanged and every counter is zero. -/
theorem frame_reference : quiescent_ReferenceIdeal (hReferenceIdeal := Cert.ReferenceIdeal.Gen.facts) := fun m g _ =>
  θ_run_mono (Ref.run (F := Ideal) m g) fun _ h => ⟨fun c => by
    obtain ⟨V, -, hV, h0, h1⟩ := h.1 c
    exact ⟨(hV _).trans h0, (hV _).trans h1⟩, h.2⟩

/-- On the same arguments, at extended reals, the kernel and the reference both run and end with the same two results: the
    index argument, and the values with the dropped ones at zero and the others doubled. -/
theorem algebraic : algebraic_KernelIdeal_ReferenceIdeal (hKernelIdeal := Cert.KernelIdeal.Gen.facts)
    (hReferenceIdeal := Cert.ReferenceIdeal.Gen.facts) := fun m g m' g' _ hm =>
  ⟨fun c => m ((c.tc : Thread Cert.KernelIdeal.nD Cert.KernelIdeal.τ).loc Cert.KernelIdeal.main_arg0),
    fun c => Drop.dropped (F := Ideal) (m ((c.tc : Thread Cert.KernelIdeal.nD Cert.KernelIdeal.τ).loc Cert.KernelIdeal.main_arg1)),
    θ_run_mono (Drop.run_main (F := Ideal) m g) fun _ h c => ⟨(h.1 c).2.2.1, (h.1 c).2.2.2, (h.1 c).1, (h.1 c).2.1⟩,
    θ_run_mono (Ref.run (F := Ideal) m' g') fun _ h c => by
      obtain ⟨V, hf, hV, h0, h1⟩ := h.1 c
      refine ⟨((hV _).trans h0).trans (hm c).1, ?_, (hV _).trans h0, (hV _).trans h1⟩
      exact (hV _).trans ((Ref.out_eq hf).trans (congrArg (Drop.dropped (F := Ideal)) (h1.trans (hm c).2)))⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof
